-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Boxes (m : (ℓ : Loc Cert.Boxes.nD Cert.Boxes.τ Cert.Boxes.sig) → Buf (Elt Bits) ℓ) : Prop :=
  True

def Pre_BoxesIdeal (m : (ℓ : Loc Cert.BoxesIdeal.nD Cert.BoxesIdeal.τ Cert.BoxesIdeal.sig) → Buf (Elt Ideal) ℓ) : Prop :=
  True

def Pre_BoxesRefIdeal (m : (ℓ : Loc Cert.BoxesRefIdeal.nD Cert.BoxesRefIdeal.τ Cert.BoxesRefIdeal.sig) → Buf (Elt Ideal) ℓ) : Prop :=
  True

def Pre_Nms (m : (ℓ : Loc Cert.Nms.nD Cert.Nms.τ Cert.Nms.sig) → Buf (Elt Bits) ℓ) : Prop :=
  True

def Pre_NmsIdeal (m : (ℓ : Loc Cert.NmsIdeal.nD Cert.NmsIdeal.τ Cert.NmsIdeal.sig) → Buf (Elt Ideal) ℓ) : Prop :=
  True

def Pre_NmsRefIdeal (m : (ℓ : Loc Cert.NmsRefIdeal.nD Cert.NmsRefIdeal.τ Cert.NmsRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Boxes [hBoxes : Cert.Boxes.Facts] : Prop :=
  ∀ (m : (ℓ : Loc Cert.Boxes.nD Cert.Boxes.τ Cert.Boxes.sig) → Buf (Elt Bits) ℓ) (g : Dev Cert.Boxes.nD → PrngReg), Pre_Boxes m →
    θ_run (Cert.Boxes.defs (F := Bits)) (onTc (τ := Cert.Boxes.τ) (Cert.Boxes.main (F := Bits))) ⟨m, fun _ => 0, g⟩ (fun r => (∀ c : Dev Cert.Boxes.nD,
      r.2.mem ((c.tc : Thread Cert.Boxes.nD Cert.Boxes.τ).loc Cert.Boxes.main_arg0) = m ((c.tc : Thread Cert.Boxes.nD Cert.Boxes.τ).loc Cert.Boxes.main_arg0)
      ∧ r.2.mem ((c.tc : Thread Cert.Boxes.nD Cert.Boxes.τ).loc Cert.Boxes.main_arg1) = m ((c.tc : Thread Cert.Boxes.nD Cert.Boxes.τ).loc Cert.Boxes.main_arg1)
      ∧ r.2.mem ((c.tc : Thread Cert.Boxes.nD Cert.Boxes.τ).loc Cert.Boxes.main_arg2) = m ((c.tc : Thread Cert.Boxes.nD Cert.Boxes.τ).loc Cert.Boxes.main_arg2))
      ∧ r.2.sem = fun _ => 0)

def quiescent_BoxesIdeal [hBoxesIdeal : Cert.BoxesIdeal.Facts] : Prop :=
  ∀ (m : (ℓ : Loc Cert.BoxesIdeal.nD Cert.BoxesIdeal.τ Cert.BoxesIdeal.sig) → Buf (Elt Ideal) ℓ) (g : Dev Cert.BoxesIdeal.nD → PrngReg), Pre_BoxesIdeal m →
    θ_run (Cert.BoxesIdeal.defs (F := Ideal)) (onTc (τ := Cert.BoxesIdeal.τ) (Cert.BoxesIdeal.main (F := Ideal))) ⟨m, fun _ => 0, g⟩ (fun r => (∀ c : Dev Cert.BoxesIdeal.nD,
      r.2.mem ((c.tc : Thread Cert.BoxesIdeal.nD Cert.BoxesIdeal.τ).loc Cert.BoxesIdeal.main_arg0) = m ((c.tc : Thread Cert.BoxesIdeal.nD Cert.BoxesIdeal.τ).loc Cert.BoxesIdeal.main_arg0)
      ∧ r.2.mem ((c.tc : Thread Cert.BoxesIdeal.nD Cert.BoxesIdeal.τ).loc Cert.BoxesIdeal.main_arg1) = m ((c.tc : Thread Cert.BoxesIdeal.nD Cert.BoxesIdeal.τ).loc Cert.BoxesIdeal.main_arg1)
      ∧ r.2.mem ((c.tc : Thread Cert.BoxesIdeal.nD Cert.BoxesIdeal.τ).loc Cert.BoxesIdeal.main_arg2) = m ((c.tc : Thread Cert.BoxesIdeal.nD Cert.BoxesIdeal.τ).loc Cert.BoxesIdeal.main_arg2))
      ∧ r.2.sem = fun _ => 0)

def quiescent_BoxesRefIdeal [hBoxesRefIdeal : Cert.BoxesRefIdeal.Facts] : Prop :=
  ∀ (m : (ℓ : Loc Cert.BoxesRefIdeal.nD Cert.BoxesRefIdeal.τ Cert.BoxesRefIdeal.sig) → Buf (Elt Ideal) ℓ) (g : Dev Cert.BoxesRefIdeal.nD → PrngReg), Pre_BoxesRefIdeal m →
    θ_run (Cert.BoxesRefIdeal.defs (F := Ideal)) (onTc (τ := Cert.BoxesRefIdeal.τ) (Cert.BoxesRefIdeal.main (F := Ideal))) ⟨m, fun _ => 0, g⟩ (fun r => (∀ c : Dev Cert.BoxesRefIdeal.nD,
      r.2.mem ((c.tc : Thread Cert.BoxesRefIdeal.nD Cert.BoxesRefIdeal.τ).loc Cert.BoxesRefIdeal.main_arg0) = m ((c.tc : Thread Cert.BoxesRefIdeal.nD Cert.BoxesRefIdeal.τ).loc Cert.BoxesRefIdeal.main_arg0)
      ∧ r.2.mem ((c.tc : Thread Cert.BoxesRefIdeal.nD Cert.BoxesRefIdeal.τ).loc Cert.BoxesRefIdeal.main_arg1) = m ((c.tc : Thread Cert.BoxesRefIdeal.nD Cert.BoxesRefIdeal.τ).loc Cert.BoxesRefIdeal.main_arg1)
      ∧ r.2.mem ((c.tc : Thread Cert.BoxesRefIdeal.nD Cert.BoxesRefIdeal.τ).loc Cert.BoxesRefIdeal.main_arg2) = m ((c.tc : Thread Cert.BoxesRefIdeal.nD Cert.BoxesRefIdeal.τ).loc Cert.BoxesRefIdeal.main_arg2))
      ∧ r.2.sem = fun _ => 0)

def quiescent_Nms [hNms : Cert.Nms.Facts] : Prop :=
  ∀ (m : (ℓ : Loc Cert.Nms.nD Cert.Nms.τ Cert.Nms.sig) → Buf (Elt Bits) ℓ) (g : Dev Cert.Nms.nD → PrngReg), Pre_Nms m →
    θ_run (Cert.Nms.defs (F := Bits)) (onTc (τ := Cert.Nms.τ) (Cert.Nms.main (F := Bits))) ⟨m, fun _ => 0, g⟩ (fun r => (∀ c : Dev Cert.Nms.nD,
      r.2.mem ((c.tc : Thread Cert.Nms.nD Cert.Nms.τ).loc Cert.Nms.main_arg0) = m ((c.tc : Thread Cert.Nms.nD Cert.Nms.τ).loc Cert.Nms.main_arg0)
      ∧ r.2.mem ((c.tc : Thread Cert.Nms.nD Cert.Nms.τ).loc Cert.Nms.main_arg1) = m ((c.tc : Thread Cert.Nms.nD Cert.Nms.τ).loc Cert.Nms.main_arg1))
      ∧ r.2.sem = fun _ => 0)

def quiescent_NmsIdeal [hNmsIdeal : Cert.NmsIdeal.Facts] : Prop :=
  ∀ (m : (ℓ : Loc Cert.NmsIdeal.nD Cert.NmsIdeal.τ Cert.NmsIdeal.sig) → Buf (Elt Ideal) ℓ) (g : Dev Cert.NmsIdeal.nD → PrngReg), Pre_NmsIdeal m →
    θ_run (Cert.NmsIdeal.defs (F := Ideal)) (onTc (τ := Cert.NmsIdeal.τ) (Cert.NmsIdeal.main (F := Ideal))) ⟨m, fun _ => 0, g⟩ (fun r => (∀ c : Dev Cert.NmsIdeal.nD,
      r.2.mem ((c.tc : Thread Cert.NmsIdeal.nD Cert.NmsIdeal.τ).loc Cert.NmsIdeal.main_arg0) = m ((c.tc : Thread Cert.NmsIdeal.nD Cert.NmsIdeal.τ).loc Cert.NmsIdeal.main_arg0)
      ∧ r.2.mem ((c.tc : Thread Cert.NmsIdeal.nD Cert.NmsIdeal.τ).loc Cert.NmsIdeal.main_arg1) = m ((c.tc : Thread Cert.NmsIdeal.nD Cert.NmsIdeal.τ).loc Cert.NmsIdeal.main_arg1))
      ∧ r.2.sem = fun _ => 0)

def quiescent_NmsRefIdeal [hNmsRefIdeal : Cert.NmsRefIdeal.Facts] : Prop :=
  ∀ (m : (ℓ : Loc Cert.NmsRefIdeal.nD Cert.NmsRefIdeal.τ Cert.NmsRefIdeal.sig) → Buf (Elt Ideal) ℓ) (g : Dev Cert.NmsRefIdeal.nD → PrngReg), Pre_NmsRefIdeal m →
    θ_run (Cert.NmsRefIdeal.defs (F := Ideal)) (onTc (τ := Cert.NmsRefIdeal.τ) (Cert.NmsRefIdeal.main (F := Ideal))) ⟨m, fun _ => 0, g⟩ (fun r => (∀ c : Dev Cert.NmsRefIdeal.nD,
      r.2.mem ((c.tc : Thread Cert.NmsRefIdeal.nD Cert.NmsRefIdeal.τ).loc Cert.NmsRefIdeal.main_arg0) = m ((c.tc : Thread Cert.NmsRefIdeal.nD Cert.NmsRefIdeal.τ).loc Cert.NmsRefIdeal.main_arg0)
      ∧ r.2.mem ((c.tc : Thread Cert.NmsRefIdeal.nD Cert.NmsRefIdeal.τ).loc Cert.NmsRefIdeal.main_arg1) = m ((c.tc : Thread Cert.NmsRefIdeal.nD Cert.NmsRefIdeal.τ).loc Cert.NmsRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v31)) (v2 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Boxes_BoxesIdeal : Prop :=
  True

def algebraic_BoxesIdeal_BoxesRefIdeal [hBoxesIdeal : Cert.BoxesIdeal.Facts] [hBoxesRefIdeal : Cert.BoxesRefIdeal.Facts] : Prop :=
  ∀ (m : (ℓ : Loc Cert.BoxesIdeal.nD Cert.BoxesIdeal.τ Cert.BoxesIdeal.sig) → Buf (Elt Ideal) ℓ) (g : Dev Cert.BoxesIdeal.nD → PrngReg)
    (m' : (ℓ : Loc Cert.BoxesRefIdeal.nD Cert.BoxesRefIdeal.τ Cert.BoxesRefIdeal.sig) → Buf (Elt Ideal) ℓ) (g' : Dev Cert.BoxesRefIdeal.nD → PrngReg), Pre_BoxesIdeal m →
    (∀ c : Dev Cert.BoxesIdeal.nD,
      m' ((c.tc : Thread Cert.BoxesRefIdeal.nD Cert.BoxesRefIdeal.τ).loc Cert.BoxesRefIdeal.main_arg0) = m ((c.tc : Thread Cert.BoxesIdeal.nD Cert.BoxesIdeal.τ).loc Cert.BoxesIdeal.main_arg0)
      ∧ m' ((c.tc : Thread Cert.BoxesRefIdeal.nD Cert.BoxesRefIdeal.τ).loc Cert.BoxesRefIdeal.main_arg1) = m ((c.tc : Thread Cert.BoxesIdeal.nD Cert.BoxesIdeal.τ).loc Cert.BoxesIdeal.main_arg1)
      ∧ m' ((c.tc : Thread Cert.BoxesRefIdeal.nD Cert.BoxesRefIdeal.τ).loc Cert.BoxesRefIdeal.main_arg2) = m ((c.tc : Thread Cert.BoxesIdeal.nD Cert.BoxesIdeal.τ).loc Cert.BoxesIdeal.main_arg2)) →
    ∃ (v0 : (c : Dev Cert.BoxesIdeal.nD) → Buf (Elt Ideal) ((c.tc : Thread Cert.BoxesIdeal.nD Cert.BoxesIdeal.τ).loc Cert.BoxesIdeal.main_v11)) (v1 : (c : Dev Cert.BoxesIdeal.nD) → Buf (Elt Ideal) ((c.tc : Thread Cert.BoxesIdeal.nD Cert.BoxesIdeal.τ).loc Cert.BoxesIdeal.main_v13)) (v2 : (c : Dev Cert.BoxesIdeal.nD) → Buf (Elt Ideal) ((c.tc : Thread Cert.BoxesIdeal.nD Cert.BoxesIdeal.τ).loc Cert.BoxesIdeal.main_cst_0)),
      θ_run (Cert.BoxesIdeal.defs (F := Ideal)) (onTc (τ := Cert.BoxesIdeal.τ) (Cert.BoxesIdeal.main (F := Ideal))) ⟨m, fun _ => 0, g⟩ (fun r => ∀ c : Dev Cert.BoxesIdeal.nD,
          r.2.mem ((c.tc : Thread Cert.BoxesIdeal.nD Cert.BoxesIdeal.τ).loc Cert.BoxesIdeal.main_v11) = v0 c
          ∧ r.2.mem ((c.tc : Thread Cert.BoxesIdeal.nD Cert.BoxesIdeal.τ).loc Cert.BoxesIdeal.main_v13) = v1 c
          ∧ r.2.mem ((c.tc : Thread Cert.BoxesIdeal.nD Cert.BoxesIdeal.τ).loc Cert.BoxesIdeal.main_cst_0) = v2 c
          ∧ r.2.mem ((c.tc : Thread Cert.BoxesIdeal.nD Cert.BoxesIdeal.τ).loc Cert.BoxesIdeal.main_arg0) = m ((c.tc : Thread Cert.BoxesIdeal.nD Cert.BoxesIdeal.τ).loc Cert.BoxesIdeal.main_arg0)
          ∧ r.2.mem ((c.tc : Thread Cert.BoxesIdeal.nD Cert.BoxesIdeal.τ).loc Cert.BoxesIdeal.main_arg1) = m ((c.tc : Thread Cert.BoxesIdeal.nD Cert.BoxesIdeal.τ).loc Cert.BoxesIdeal.main_arg1)
          ∧ r.2.mem ((c.tc : Thread Cert.BoxesIdeal.nD Cert.BoxesIdeal.τ).loc Cert.BoxesIdeal.main_arg2) = m ((c.tc : Thread Cert.BoxesIdeal.nD Cert.BoxesIdeal.τ).loc Cert.BoxesIdeal.main_arg2))
      ∧ θ_run (Cert.BoxesRefIdeal.defs (F := Ideal)) (onTc (τ := Cert.BoxesRefIdeal.τ) (Cert.BoxesRefIdeal.main (F := Ideal))) ⟨m', fun _ => 0, g'⟩ (fun r => ∀ c : Dev Cert.BoxesRefIdeal.nD,
          r.2.mem ((c.tc : Thread Cert.BoxesRefIdeal.nD Cert.BoxesRefIdeal.τ).loc Cert.BoxesRefIdeal.main_v78) = v0 c
          ∧ r.2.mem ((c.tc : Thread Cert.BoxesRefIdeal.nD Cert.BoxesRefIdeal.τ).loc Cert.BoxesRefIdeal.main_v86) = v1 c
          ∧ r.2.mem ((c.tc : Thread Cert.BoxesRefIdeal.nD Cert.BoxesRefIdeal.τ).loc Cert.BoxesRefIdeal.main_cst_3) = v2 c
          ∧ r.2.mem ((c.tc : Thread Cert.BoxesRefIdeal.nD Cert.BoxesRefIdeal.τ).loc Cert.BoxesRefIdeal.main_arg0) = m' ((c.tc : Thread Cert.BoxesRefIdeal.nD Cert.BoxesRefIdeal.τ).loc Cert.BoxesRefIdeal.main_arg0)
          ∧ r.2.mem ((c.tc : Thread Cert.BoxesRefIdeal.nD Cert.BoxesRefIdeal.τ).loc Cert.BoxesRefIdeal.main_arg1) = m' ((c.tc : Thread Cert.BoxesRefIdeal.nD Cert.BoxesRefIdeal.τ).loc Cert.BoxesRefIdeal.main_arg1)
          ∧ r.2.mem ((c.tc : Thread Cert.BoxesRefIdeal.nD Cert.BoxesRefIdeal.τ).loc Cert.BoxesRefIdeal.main_arg2) = m' ((c.tc : Thread Cert.BoxesRefIdeal.nD Cert.BoxesRefIdeal.τ).loc Cert.BoxesRefIdeal.main_arg2))

def preserves_Nms_NmsIdeal : Prop :=
  True

def algebraic_NmsIdeal_NmsRefIdeal [hNmsIdeal : Cert.NmsIdeal.Facts] [hNmsRefIdeal : Cert.NmsRefIdeal.Facts] : Prop :=
  ∀ (m : (ℓ : Loc Cert.NmsIdeal.nD Cert.NmsIdeal.τ Cert.NmsIdeal.sig) → Buf (Elt Ideal) ℓ) (g : Dev Cert.NmsIdeal.nD → PrngReg)
    (m' : (ℓ : Loc Cert.NmsRefIdeal.nD Cert.NmsRefIdeal.τ Cert.NmsRefIdeal.sig) → Buf (Elt Ideal) ℓ) (g' : Dev Cert.NmsRefIdeal.nD → PrngReg), Pre_NmsIdeal m →
    (∀ c : Dev Cert.NmsIdeal.nD,
      m' ((c.tc : Thread Cert.NmsRefIdeal.nD Cert.NmsRefIdeal.τ).loc Cert.NmsRefIdeal.main_arg0) = m ((c.tc : Thread Cert.NmsIdeal.nD Cert.NmsIdeal.τ).loc Cert.NmsIdeal.main_arg0)
      ∧ m' ((c.tc : Thread Cert.NmsRefIdeal.nD Cert.NmsRefIdeal.τ).loc Cert.NmsRefIdeal.main_arg1) = m ((c.tc : Thread Cert.NmsIdeal.nD Cert.NmsIdeal.τ).loc Cert.NmsIdeal.main_arg1)) →
    ∃ (v0 : (c : Dev Cert.NmsIdeal.nD) → Buf (Elt Ideal) ((c.tc : Thread Cert.NmsIdeal.nD Cert.NmsIdeal.τ).loc Cert.NmsIdeal.main_v24)),
      θ_run (Cert.NmsIdeal.defs (F := Ideal)) (onTc (τ := Cert.NmsIdeal.τ) (Cert.NmsIdeal.main (F := Ideal))) ⟨m, fun _ => 0, g⟩ (fun r => ∀ c : Dev Cert.NmsIdeal.nD,
          r.2.mem ((c.tc : Thread Cert.NmsIdeal.nD Cert.NmsIdeal.τ).loc Cert.NmsIdeal.main_v24) = v0 c
          ∧ r.2.mem ((c.tc : Thread Cert.NmsIdeal.nD Cert.NmsIdeal.τ).loc Cert.NmsIdeal.main_arg0) = m ((c.tc : Thread Cert.NmsIdeal.nD Cert.NmsIdeal.τ).loc Cert.NmsIdeal.main_arg0)
          ∧ r.2.mem ((c.tc : Thread Cert.NmsIdeal.nD Cert.NmsIdeal.τ).loc Cert.NmsIdeal.main_arg1) = m ((c.tc : Thread Cert.NmsIdeal.nD Cert.NmsIdeal.τ).loc Cert.NmsIdeal.main_arg1))
      ∧ θ_run (Cert.NmsRefIdeal.defs (F := Ideal)) (onTc (τ := Cert.NmsRefIdeal.τ) (Cert.NmsRefIdeal.main (F := Ideal))) ⟨m', fun _ => 0, g'⟩ (fun r => ∀ c : Dev Cert.NmsRefIdeal.nD,
          r.2.mem ((c.tc : Thread Cert.NmsRefIdeal.nD Cert.NmsRefIdeal.τ).loc Cert.NmsRefIdeal.main_v67) = v0 c
          ∧ r.2.mem ((c.tc : Thread Cert.NmsRefIdeal.nD Cert.NmsRefIdeal.τ).loc Cert.NmsRefIdeal.main_arg0) = m' ((c.tc : Thread Cert.NmsRefIdeal.nD Cert.NmsRefIdeal.τ).loc Cert.NmsRefIdeal.main_arg0)
          ∧ r.2.mem ((c.tc : Thread Cert.NmsRefIdeal.nD Cert.NmsRefIdeal.τ).loc Cert.NmsRefIdeal.main_arg1) = m' ((c.tc : Thread Cert.NmsRefIdeal.nD Cert.NmsRefIdeal.τ).loc Cert.NmsRefIdeal.main_arg1))

def Claim : Prop :=
  ∃ (hKernel : Cert.Kernel.Facts) (hKernelIdeal : Cert.KernelIdeal.Facts) (hReferenceIdeal : Cert.ReferenceIdeal.Facts) (hBoxes : Cert.Boxes.Facts) (hBoxesIdeal : Cert.BoxesIdeal.Facts) (hBoxesRefIdeal : Cert.BoxesRefIdeal.Facts) (hNms : Cert.Nms.Facts) (hNmsIdeal : Cert.NmsIdeal.Facts) (hNmsRefIdeal : Cert.NmsRefIdeal.Facts),
    quiescent_Kernel (hKernel := hKernel)
    ∧ quiescent_KernelIdeal (hKernelIdeal := hKernelIdeal)
    ∧ quiescent_ReferenceIdeal (hReferenceIdeal := hReferenceIdeal)
    ∧ quiescent_Boxes (hBoxes := hBoxes)
    ∧ quiescent_BoxesIdeal (hBoxesIdeal := hBoxesIdeal)
    ∧ quiescent_BoxesRefIdeal (hBoxesRefIdeal := hBoxesRefIdeal)
    ∧ quiescent_Nms (hNms := hNms)
    ∧ quiescent_NmsIdeal (hNmsIdeal := hNmsIdeal)
    ∧ quiescent_NmsRefIdeal (hNmsRefIdeal := hNmsRefIdeal)
    ∧ preserves_Kernel_KernelIdeal
    ∧ algebraic_KernelIdeal_ReferenceIdeal (hKernelIdeal := hKernelIdeal) (hReferenceIdeal := hReferenceIdeal)
    ∧ preserves_Boxes_BoxesIdeal
    ∧ algebraic_BoxesIdeal_BoxesRefIdeal (hBoxesIdeal := hBoxesIdeal) (hBoxesRefIdeal := hBoxesRefIdeal)
    ∧ preserves_Nms_NmsIdeal
    ∧ algebraic_NmsIdeal_NmsRefIdeal (hNmsIdeal := hNmsIdeal) (hNmsRefIdeal := hNmsRefIdeal)
-- ==== Kernel.lean ====
abbrev S2x512x50x50 : Shape := ⟨4, ![2, 512, 50, 50]⟩
abbrev S512x512x3x3 : Shape := ⟨4, ![512, 512, 3, 3]⟩
abbrev S512 : Shape := ⟨1, ![512]⟩
abbrev S18x512x1x1 : Shape := ⟨4, ![18, 512, 1, 1]⟩
abbrev S18 : Shape := ⟨1, ![18]⟩
abbrev S36x512x1x1 : Shape := ⟨4, ![36, 512, 1, 1]⟩
abbrev S36 : Shape := ⟨1, ![36]⟩
abbrev S2x50x50x512 : Shape := ⟨4, ![2, 50, 50, 512]⟩
abbrev S_ : Shape := ⟨0, ![]⟩
abbrev S2x52x56x512 : Shape := ⟨4, ![2, 52, 56, 512]⟩
abbrev S2x2912x512 : Shape := ⟨3, ![2, 2912, 512]⟩
abbrev S2x3074x512 : Shape := ⟨3, ![2, 3074, 512]⟩
abbrev S2x3072x512 : Shape := ⟨3, ![2, 3072, 512]⟩
abbrev S1x2x3072x512 : Shape := ⟨4, ![1, 2, 3072, 512]⟩
abbrev S3x2x3072x512 : Shape := ⟨4, ![3, 2, 3072, 512]⟩
abbrev S3x3x512x512 : Shape := ⟨4, ![3, 3, 512, 512]⟩
abbrev S9x512x512 : Shape := ⟨3, ![9, 512, 512]⟩
abbrev S36x512 : Shape := ⟨2, ![36, 512]⟩
abbrev S512x36 : Shape := ⟨2, ![512, 36]⟩
abbrev S18x512 : Shape := ⟨2, ![18, 512]⟩
abbrev S512x18 : Shape := ⟨2, ![512, 18]⟩
abbrev S512x54 : Shape := ⟨2, ![512, 54]⟩
abbrev S512x64 : Shape := ⟨2, ![512, 64]⟩
abbrev S54 : Shape := ⟨1, ![54]⟩
abbrev S64 : Shape := ⟨1, ![64]⟩
abbrev S1x64 : Shape := ⟨2, ![1, 64]⟩
abbrev S1x512 : Shape := ⟨2, ![1, 512]⟩
abbrev S2x2912x64 : Shape := ⟨3, ![2, 2912, 64]⟩
abbrev S3x1x3072x512 : Shape := ⟨4, ![3, 1, 3072, 512]⟩
abbrev S1x208x64 : Shape := ⟨3, ![1, 208, 64]⟩
abbrev S208x512 : Shape := ⟨2, ![208, 512]⟩
abbrev S1x1x208x512 : Shape := ⟨4, ![1, 1, 208, 512]⟩
abbrev S1x512x512 : Shape := ⟨3, ![1, 512, 512]⟩
abbrev S512x512 : Shape := ⟨2, ![512, 512]⟩
abbrev S208x64 : Shape := ⟨2, ![208, 64]⟩
abbrev S2x52x56x64 : Shape := ⟨4, ![2, 52, 56, 64]⟩
abbrev S2x50x50x64 : Shape := ⟨4, ![2, 50, 50, 64]⟩
abbrev S2x50x50x36 : Shape := ⟨4, ![2, 50, 50, 36]⟩
abbrev S2x22500x4 : Shape := ⟨3, ![2, 22500, 4]⟩
abbrev S2x50x50x18 : Shape := ⟨4, ![2, 50, 50, 18]⟩
abbrev S2x22500x2 : Shape := ⟨3, ![2, 22500, 2]⟩
abbrev S2 : Shape := ⟨1, ![2]⟩
abbrev S2x600 : Shape := ⟨2, ![2, 600]⟩
abbrev S1200 : Shape := ⟨1, ![1200]⟩

abbrev nBuf : Space → Nat
  | .hbm => 50
  | .vmem => 8
  | .smem => 0
  | _ => 0

abbrev bufTy : (tb : Table) → Fin (tcTables nBuf tb) → BufTy
  | .hbm, ⟨0, _⟩ => ⟨S2x512x50x50, .f32⟩
  | .hbm, ⟨1, _⟩ => ⟨S512x512x3x3, .f32⟩
  | .hbm, ⟨2, _⟩ => ⟨S512, .f32⟩
  | .hbm, ⟨3, _⟩ => ⟨S18x512x1x1, .f32⟩
  | .hbm, ⟨4, _⟩ => ⟨S18, .f32⟩
  | .hbm, ⟨5, _⟩ => ⟨S36x512x1x1, .f32⟩
  | .hbm, ⟨6, _⟩ => ⟨S36, .f32⟩
  | .hbm, ⟨7, _⟩ => ⟨S2x50x50x512, .f32⟩
  | .hbm, ⟨8, _⟩ => ⟨S_, .i32⟩
  | .hbm, ⟨9, _⟩ => ⟨S_, .f32⟩
  | .hbm, ⟨10, _⟩ => ⟨S2x52x56x512, .f32⟩
  | .hbm, ⟨11, _⟩ => ⟨S2x2912x512, .f32⟩
  | .hbm, ⟨12, _⟩ => ⟨S_, .i32⟩
  | .hbm, ⟨13, _⟩ => ⟨S_, .f32⟩
  | .hbm, ⟨14, _⟩ => ⟨S2x3074x512, .f32⟩
  | .hbm, ⟨15, _⟩ => ⟨S2x3072x512, .f32⟩
  | .hbm, ⟨16, _⟩ => ⟨S2x3072x512, .f32⟩
  | .hbm, ⟨17, _⟩ => ⟨S2x3072x512, .f32⟩
  | .hbm, ⟨18, _⟩ => ⟨S1x2x3072x512, .f32⟩
  | .hbm, ⟨19, _⟩ => ⟨S1x2x3072x512, .f32⟩
  | .hbm, ⟨20, _⟩ => ⟨S1x2x3072x512, .f32⟩
  | .hbm, ⟨21, _⟩ => ⟨S3x2x3072x512, .f32⟩
  | .hbm, ⟨22, _⟩ => ⟨S3x3x512x512, .f32⟩
  | .hbm, ⟨23, _⟩ => ⟨S9x512x512, .f32⟩
  | .hbm, ⟨24, _⟩ => ⟨S9x512x512, .bf16⟩
  | .hbm, ⟨25, _⟩ => ⟨S36x512, .f32⟩
  | .hbm, ⟨26, _⟩ => ⟨S512x36, .f32⟩
  | .hbm, ⟨27, _⟩ => ⟨S18x512, .f32⟩
  | .hbm, ⟨28, _⟩ => ⟨S512x18, .f32⟩
  | .hbm, ⟨29, _⟩ => ⟨S512x54, .f32⟩
  | .hbm, ⟨30, _⟩ => ⟨S_, .i32⟩
  | .hbm, ⟨31, _⟩ => ⟨S_, .f32⟩
  | .hbm, ⟨32, _⟩ => ⟨S512x64, .f32⟩
  | .hbm, ⟨33, _⟩ => ⟨S512x64, .bf16⟩
  | .hbm, ⟨34, _⟩ => ⟨S54, .f32⟩
  | .hbm, ⟨35, _⟩ => ⟨S_, .i32⟩
  | .hbm, ⟨36, _⟩ => ⟨S_, .f32⟩
  | .hbm, ⟨37, _⟩ => ⟨S64, .f32⟩
  | .hbm, ⟨38, _⟩ => ⟨S1x64, .f32⟩
  | .hbm, ⟨39, _⟩ => ⟨S1x512, .f32⟩
  | .hbm, ⟨40, _⟩ => ⟨S2x2912x64, .f32⟩
  | .hbm, ⟨41, _⟩ => ⟨S2x52x56x64, .f32⟩
  | .hbm, ⟨42, _⟩ => ⟨S2x50x50x64, .f32⟩
  | .hbm, ⟨43, _⟩ => ⟨S2x50x50x36, .f32⟩
  | .hbm, ⟨44, _⟩ => ⟨S2x22500x4, .f32⟩
  | .hbm, ⟨45, _⟩ => ⟨S2x50x50x18, .f32⟩
  | .hbm, ⟨46, _⟩ => ⟨S2x22500x2, .f32⟩
  | .hbm, ⟨47, _⟩ => ⟨S2, .f32⟩
  | .hbm, ⟨48, _⟩ => ⟨S2x600, .f32⟩
  | .hbm, ⟨49, _⟩ => ⟨S1200, .f32⟩
  | .local _ .vmem, ⟨0, _⟩ => ⟨S3x1x3072x512, .f32⟩
  | .local _ .vmem, ⟨1, _⟩ => ⟨S3x1x3072x512, .f32⟩
  | .local _ .vmem, ⟨2, _⟩ => ⟨S9x512x512, .bf16⟩
  | .local _ .vmem, ⟨3, _⟩ => ⟨S1x512, .f32⟩
  | .local _ .vmem, ⟨4, _⟩ => ⟨S512x64, .bf16⟩
  | .local _ .vmem, ⟨5, _⟩ => ⟨S1x64, .f32⟩
  | .local _ .vmem, ⟨6, _⟩ => ⟨S1x208x64, .f32⟩
  | .local _ .vmem, ⟨7, _⟩ => ⟨S1x208x64, .f32⟩
  | _, _ => ⟨S2x512x50x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_call2_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_2 : Ref sig .tc := ⟨.hbm, 35, rfl⟩
abbrev main_call3_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 14], ![false, false]⟩

def k0_off1 (i : grid0.Coords) (c0_i32 : BitVec 32) : Fin 4 → Nat :=
  let c0 : Index := 0#32
  let c0_0 : Index := 0#32
  let arg1 : BitVec 32 := BitVec.ofNat 32 (i 1).val
  let c208_i32 : BitVec 32 := 208#32
  let v1 : BitVec 32 := Scalar.muli arg1 c208_i32
  let v2 : BitVec 32 := Scalar.addi v1 c0_i32
  let v3 : Index := Scalar.indexCast v2
  let c0_1 : Index := 0#32
  ![0, 0, v3.toNat, 0]
def k0_off2 (i : grid0.Coords) (c0_i32_7 : BitVec 32) : Fin 4 → Nat :=
  let c1 : Index := 1#32
  let c0_8 : Index := 0#32
  let arg1 : BitVec 32 := BitVec.ofNat 32 (i 1).val
  let c208_i32_6 : BitVec 32 := 208#32
  let v11 : BitVec 32 := Scalar.muli arg1 c208_i32_6
  let v12 : BitVec 32 := Scalar.addi v11 c0_i32_7
  let v13 : Index := Scalar.indexCast v12
  let c0_9 : Index := 0#32
  ![1, 0, v13.toNat, 0]
def k0_off3 (i : grid0.Coords) (c0_i32_15 : BitVec 32) : Fin 4 → Nat :=
  let c2 : Index := 2#32
  let c0_16 : Index := 0#32
  let arg1 : BitVec 32 := BitVec.ofNat 32 (i 1).val
  let c208_i32_14 : BitVec 32 := 208#32
  let v21 : BitVec 32 := Scalar.muli arg1 c208_i32_14
  let v22 : BitVec 32 := Scalar.addi v21 c0_i32_15
  let v23 : Index := Scalar.indexCast v22
  let c0_17 : Index := 0#32
  ![2, 0, v23.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S3x1x3072x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S9x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x208x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x512x50x50 : Shape := ⟨4, ![2, 512, 50, 50]⟩
abbrev S512x512x3x3 : Shape := ⟨4, ![512, 512, 3, 3]⟩
abbrev S512 : Shape := ⟨1, ![512]⟩
abbrev S18x512x1x1 : Shape := ⟨4, ![18, 512, 1, 1]⟩
abbrev S18 : Shape := ⟨1, ![18]⟩
abbrev S36x512x1x1 : Shape := ⟨4, ![36, 512, 1, 1]⟩
abbrev S36 : Shape := ⟨1, ![36]⟩
abbrev S_ : Shape := ⟨0, ![]⟩
abbrev S2x512x52x52 : Shape := ⟨4, ![2, 512, 52, 52]⟩
abbrev S512x512x1x1 : Shape := ⟨4, ![512, 512, 1, 1]⟩
abbrev S512x512 : Shape := ⟨2, ![512, 512]⟩
abbrev S2x50x50x512 : Shape := ⟨4, ![2, 50, 50, 512]⟩
abbrev S1x1x1x512 : Shape := ⟨4, ![1, 1, 1, 512]⟩
abbrev S36x512 : Shape := ⟨2, ![36, 512]⟩
abbrev S2x50x50x36 : Shape := ⟨4, ![2, 50, 50, 36]⟩
abbrev S1x1x1x36 : Shape := ⟨4, ![1, 1, 1, 36]⟩
abbrev S2x22500x4 : Shape := ⟨3, ![2, 22500, 4]⟩
abbrev S18x512 : Shape := ⟨2, ![18, 512]⟩
abbrev S2x50x50x18 : Shape := ⟨4, ![2, 50, 50, 18]⟩
abbrev S1x1x1x18 : Shape := ⟨4, ![1, 1, 1, 18]⟩
abbrev S2x22500x2 : Shape := ⟨3, ![2, 22500, 2]⟩
abbrev S600 : Shape := ⟨1, ![600]⟩
abbrev S1200 : Shape := ⟨1, ![1200]⟩

abbrev nBuf : Space → Nat
  | .hbm => 86
  | .vmem => 0
  | .smem => 0
  | _ => 0

abbrev bufTy : (tb : Table) → Fin (tcTables nBuf tb) → BufTy
  | .hbm, ⟨0, _⟩ => ⟨S2x512x50x50, .f32⟩
  | .hbm, ⟨1, _⟩ => ⟨S512x512x3x3, .f32⟩
  | .hbm, ⟨2, _⟩ => ⟨S512, .f32⟩
  | .hbm, ⟨3, _⟩ => ⟨S18x512x1x1, .f32⟩
  | .hbm, ⟨4, _⟩ => ⟨S18, .f32⟩
  | .hbm, ⟨5, _⟩ => ⟨S36x512x1x1, .f32⟩
  | .hbm, ⟨6, _⟩ => ⟨S36, .f32⟩
  | .hbm, ⟨7, _⟩ => ⟨S_, .i32⟩
  | .hbm, ⟨8, _⟩ => ⟨S_, .f32⟩
  | .hbm, ⟨9, _⟩ => ⟨S2x512x52x52, .f32⟩
  | .hbm, ⟨10, _⟩ => ⟨S2x512x50x50, .f32⟩
  | .hbm, ⟨11, _⟩ => ⟨S512x512x1x1, .f32⟩
  | .hbm, ⟨12, _⟩ => ⟨S512x512, .f32⟩
  | .hbm, ⟨13, _⟩ => ⟨S2x50x50x512, .f32⟩
  | .hbm, ⟨14, _⟩ => ⟨S_, .f32⟩
  | .hbm, ⟨15, _⟩ => ⟨S2x50x50x512, .f32⟩
  | .hbm, ⟨16, _⟩ => ⟨S2x50x50x512, .f32⟩
  | .hbm, ⟨17, _⟩ => ⟨S2x512x50x50, .f32⟩
  | .hbm, ⟨18, _⟩ => ⟨S512x512x1x1, .f32⟩
  | .hbm, ⟨19, _⟩ => ⟨S512x512, .f32⟩
  | .hbm, ⟨20, _⟩ => ⟨S2x50x50x512, .f32⟩
  | .hbm, ⟨21, _⟩ => ⟨S2x50x50x512, .f32⟩
  | .hbm, ⟨22, _⟩ => ⟨S2x512x50x50, .f32⟩
  | .hbm, ⟨23, _⟩ => ⟨S512x512x1x1, .f32⟩
  | .hbm, ⟨24, _⟩ => ⟨S512x512, .f32⟩
  | .hbm, ⟨25, _⟩ => ⟨S2x50x50x512, .f32⟩
  | .hbm, ⟨26, _⟩ => ⟨S2x50x50x512, .f32⟩
  | .hbm, ⟨27, _⟩ => ⟨S2x512x50x50, .f32⟩
  | .hbm, ⟨28, _⟩ => ⟨S512x512x1x1, .f32⟩
  | .hbm, ⟨29, _⟩ => ⟨S512x512, .f32⟩
  | .hbm, ⟨30, _⟩ => ⟨S2x50x50x512, .f32⟩
  | .hbm, ⟨31, _⟩ => ⟨S2x50x50x512, .f32⟩
  | .hbm, ⟨32, _⟩ => ⟨S2x512x50x50, .f32⟩
  | .hbm, ⟨33, _⟩ => ⟨S512x512x1x1, .f32⟩
  | .hbm, ⟨34, _⟩ => ⟨S512x512, .f32⟩
  | .hbm, ⟨35, _⟩ => ⟨S2x50x50x512, .f32⟩
  | .hbm, ⟨36, _⟩ => ⟨S2x50x50x512, .f32⟩
  | .hbm, ⟨37, _⟩ => ⟨S2x512x50x50, .f32⟩
  | .hbm, ⟨38, _⟩ => ⟨S512x512x1x1, .f32⟩
  | .hbm, ⟨39, _⟩ => ⟨S512x512, .f32⟩
  | .hbm, ⟨40, _⟩ => ⟨S2x50x50x512, .f32⟩
  | .hbm, ⟨41, _⟩ => ⟨S2x50x50x512, .f32⟩
  | .hbm, ⟨42, _⟩ => ⟨S2x512x50x50, .f32⟩
  | .hbm, ⟨43, _⟩ => ⟨S512x512x1x1, .f32⟩
  | .hbm, ⟨44, _⟩ => ⟨S512x512, .f32⟩
  | .hbm, ⟨45, _⟩ => ⟨S2x50x50x512, .f32⟩
  | .hbm, ⟨46, _⟩ => ⟨S2x50x50x512, .f32⟩
  | .hbm, ⟨47, _⟩ => ⟨S2x512x50x50, .f32⟩
  | .hbm, ⟨48, _⟩ => ⟨S512x512x1x1, .f32⟩
  | .hbm, ⟨49, _⟩ => ⟨S512x512, .f32⟩
  | .hbm, ⟨50, _⟩ => ⟨S2x50x50x512, .f32⟩
  | .hbm, ⟨51, _⟩ => ⟨S2x50x50x512, .f32⟩
  | .hbm, ⟨52, _⟩ => ⟨S2x512x50x50, .f32⟩
  | .hbm, ⟨53, _⟩ => ⟨S512x512x1x1, .f32⟩
  | .hbm, ⟨54, _⟩ => ⟨S512x512, .f32⟩
  | .hbm, ⟨55, _⟩ => ⟨S2x50x50x512, .f32⟩
  | .hbm, ⟨56, _⟩ => ⟨S2x50x50x512, .f32⟩
  | .hbm, ⟨57, _⟩ => ⟨S1x1x1x512, .f32⟩
  | .hbm, ⟨58, _⟩ => ⟨S2x50x50x512, .f32⟩
  | .hbm, ⟨59, _⟩ => ⟨S2x50x50x512, .f32⟩
  | .hbm, ⟨60, _⟩ => ⟨S_, .f32⟩
  | .hbm, ⟨61, _⟩ => ⟨S2x50x50x512, .f32⟩
  | .hbm, ⟨62, _⟩ => ⟨S2x50x50x512, .f32⟩
  | .hbm, ⟨63, _⟩ => ⟨S36x512, .f32⟩
  | .hbm, ⟨64, _⟩ => ⟨S2x50x50x36, .f32⟩
  | .hbm, ⟨65, _⟩ => ⟨S1x1x1x36, .f32⟩
  | .hbm, ⟨66, _⟩ => ⟨S2x50x50x36, .f32⟩
  | .hbm, ⟨67, _⟩ => ⟨S2x50x50x36, .f32⟩
  | .hbm, ⟨68, _⟩ => ⟨S2x22500x4, .f32⟩
  | .hbm, ⟨69, _⟩ => ⟨S18x512, .f32⟩
  | .hbm, ⟨70, _⟩ => ⟨S2x50x50x18, .f32⟩
  | .hbm, ⟨71, _⟩ => ⟨S1x1x1x18, .f32⟩
  | .hbm, ⟨72, _⟩ => ⟨S2x50x50x18, .f32⟩
  | .hbm, ⟨73, _⟩ => ⟨S2x50x50x18, .f32⟩
  | .hbm, ⟨74, _⟩ => ⟨S2x22500x2, .f32⟩
  | .hbm, ⟨75, _⟩ => ⟨S_, .f32⟩
  | .hbm, ⟨76, _⟩ => ⟨S600, .f32⟩
  | .hbm, ⟨77, _⟩ => ⟨S_, .f32⟩
  | .hbm, ⟨78, _⟩ => ⟨S600, .f32⟩
  | .hbm, ⟨79, _⟩ => ⟨S600, .f32⟩
  | .hbm, ⟨80, _⟩ => ⟨S_, .f32⟩
  | .hbm, ⟨81, _⟩ => ⟨S600, .f32⟩
  | .hbm, ⟨82, _⟩ => ⟨S_, .f32⟩
  | .hbm, ⟨83, _⟩ => ⟨S600, .f32⟩
  | .hbm, ⟨84, _⟩ => ⟨S600, .f32⟩
  | .hbm, ⟨85, _⟩ => ⟨S1200, .f32⟩
  | _, _ => ⟨S2x512x50x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_0 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_1 : Ref sig .tc := ⟨.hbm, 75, rfl⟩
abbrev main_v64 : Ref sig .tc := ⟨.hbm, 76, rfl⟩
abbrev main_cst_2 : Ref sig .tc := ⟨.hbm, 77, rfl⟩
abbrev main_v65 : Ref sig .tc := ⟨.hbm, 78, rfl⟩
abbrev main_v66 : Ref sig .tc := ⟨.hbm, 79, rfl⟩
abbrev main_cst_3 : Ref sig .tc := ⟨.hbm, 80, rfl⟩
abbrev main_v67 : Ref sig .tc := ⟨.hbm, 81, rfl⟩
abbrev main_cst_4 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩

abbrev nD : Nat := 1
abbrev τ : Topo := Topo.v7x

variable {F : FTy → Type} [FloatOps F]
-- ==== Boxes.lean ====
abbrev S2x22500x4 : Shape := ⟨3, ![2, 22500, 4]⟩
abbrev S2x22500x2 : Shape := ⟨3, ![2, 22500, 2]⟩
abbrev S2 : Shape := ⟨1, ![2]⟩
abbrev S4x176x128 : Shape := ⟨3, ![4, 176, 128]⟩
abbrev S22500x4 : Shape := ⟨2, ![22500, 4]⟩
abbrev S2x4x22500 : Shape := ⟨3, ![2, 4, 22500]⟩
abbrev S2x2x22500 : Shape := ⟨3, ![2, 2, 22500]⟩
abbrev S2x6x22500 : Shape := ⟨3, ![2, 6, 22500]⟩
abbrev S_ : Shape := ⟨0, ![]⟩
abbrev S2x6x22528 : Shape := ⟨3, ![2, 6, 22528]⟩
abbrev S2x6x176x128 : Shape := ⟨4, ![2, 6, 176, 128]⟩
abbrev S1x2 : Shape := ⟨2, ![1, 2]⟩
abbrev S2x5x176x128 : Shape := ⟨4, ![2, 5, 176, 128]⟩
abbrev S1x6x176x128 : Shape := ⟨4, ![1, 6, 176, 128]⟩
abbrev S1x5x176x128 : Shape := ⟨4, ![1, 5, 176, 128]⟩
abbrev S1x1x176x128 : Shape := ⟨4, ![1, 1, 176, 128]⟩
abbrev S176x128 : Shape := ⟨2, ![176, 128]⟩
abbrev S1x176x128 : Shape := ⟨3, ![1, 176, 128]⟩
abbrev S1x1 : Shape := ⟨2, ![1, 1]⟩
abbrev S2x5x22528 : Shape := ⟨3, ![2, 5, 22528]⟩
abbrev S2x5x22500 : Shape := ⟨3, ![2, 5, 22500]⟩
abbrev S2x1x22500 : Shape := ⟨3, ![2, 1, 22500]⟩
abbrev S2x22500 : Shape := ⟨2, ![2, 22500]⟩

abbrev nBuf : Space → Nat
  | .hbm => 21
  | .vmem => 6
  | .smem => 0
  | _ => 0

abbrev bufTy : (tb : Table) → Fin (tcTables nBuf tb) → BufTy
  | .hbm, ⟨0, _⟩ => ⟨S2x22500x4, .f32⟩
  | .hbm, ⟨1, _⟩ => ⟨S2x22500x2, .f32⟩
  | .hbm, ⟨2, _⟩ => ⟨S2, .i32⟩
  | .hbm, ⟨3, _⟩ => ⟨S4x176x128, .f32⟩
  | .hbm, ⟨4, _⟩ => ⟨S22500x4, .f32⟩
  | .hbm, ⟨5, _⟩ => ⟨S2x4x22500, .f32⟩
  | .hbm, ⟨6, _⟩ => ⟨S2x2x22500, .f32⟩
  | .hbm, ⟨7, _⟩ => ⟨S2x6x22500, .f32⟩
  | .hbm, ⟨8, _⟩ => ⟨S_, .i32⟩
  | .hbm, ⟨9, _⟩ => ⟨S_, .f32⟩
  | .hbm, ⟨10, _⟩ => ⟨S2x6x22528, .f32⟩
  | .hbm, ⟨11, _⟩ => ⟨S2x6x176x128, .f32⟩
  | .hbm, ⟨12, _⟩ => ⟨S2, .f32⟩
  | .hbm, ⟨13, _⟩ => ⟨S1x2, .f32⟩
  | .hbm, ⟨14, _⟩ => ⟨S2x5x176x128, .f32⟩
  | .hbm, ⟨15, _⟩ => ⟨S2x5x22528, .f32⟩
  | .hbm, ⟨16, _⟩ => ⟨S2x5x22500, .f32⟩
  | .hbm, ⟨17, _⟩ => ⟨S2x4x22500, .f32⟩
  | .hbm, ⟨18, _⟩ => ⟨S2x22500x4, .f32⟩
  | .hbm, ⟨19, _⟩ => ⟨S2x1x22500, .f32⟩
  | .hbm, ⟨20, _⟩ => ⟨S2x22500, .f32⟩
  | .local _ .vmem, ⟨0, _⟩ => ⟨S1x6x176x128, .f32⟩
  | .local _ .vmem, ⟨1, _⟩ => ⟨S1x6x176x128, .f32⟩
  | .local _ .vmem, ⟨2, _⟩ => ⟨S4x176x128, .f32⟩
  | .local _ .vmem, ⟨3, _⟩ => ⟨S1x2, .f32⟩
  | .local _ .vmem, ⟨4, _⟩ => ⟨S1x5x176x128, .f32⟩
  | .local _ .vmem, ⟨5, _⟩ => ⟨S1x5x176x128, .f32⟩
  | _, _ => ⟨S2x22500x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x6x176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x176x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x5x176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== BoxesRefIdeal.lean ====
abbrev S2x22500x4 : Shape := ⟨3, ![2, 22500, 4]⟩
abbrev S2x22500x2 : Shape := ⟨3, ![2, 22500, 2]⟩
abbrev S2 : Shape := ⟨1, ![2]⟩
abbrev S1x50x9 : Shape := ⟨3, ![1, 50, 9]⟩
abbrev S50x1x9 : Shape := ⟨3, ![50, 1, 9]⟩
abbrev S22500x4 : Shape := ⟨2, ![22500, 4]⟩
abbrev S50x50x9 : Shape := ⟨3, ![50, 50, 9]⟩
abbrev S22500 : Shape := ⟨1, ![22500]⟩
abbrev S_ : Shape := ⟨0, ![]⟩
abbrev S2x22500 : Shape := ⟨2, ![2, 22500]⟩
abbrev S2x22500x1 : Shape := ⟨3, ![2, 22500, 1]⟩
abbrev S1x22500 : Shape := ⟨2, ![1, 22500]⟩
abbrev S1 : Shape := ⟨1, ![1]⟩

abbrev nBuf : Space → Nat
  | .hbm => 127
  | .vmem => 0
  | .smem => 0
  | _ => 0

abbrev bufTy : (tb : Table) → Fin (tcTables nBuf tb) → BufTy
  | .hbm, ⟨0, _⟩ => ⟨S2x22500x4, .f32⟩
  | .hbm, ⟨1, _⟩ => ⟨S2x22500x2, .f32⟩
  | .hbm, ⟨2, _⟩ => ⟨S2, .i32⟩
  | .hbm, ⟨3, _⟩ => ⟨S1x50x9, .f32⟩
  | .hbm, ⟨4, _⟩ => ⟨S50x1x9, .f32⟩
  | .hbm, ⟨5, _⟩ => ⟨S1x50x9, .f32⟩
  | .hbm, ⟨6, _⟩ => ⟨S50x1x9, .f32⟩
  | .hbm, ⟨7, _⟩ => ⟨S22500x4, .f32⟩
  | .hbm, ⟨8, _⟩ => ⟨S50x50x9, .f32⟩
  | .hbm, ⟨9, _⟩ => ⟨S22500, .f32⟩
  | .hbm, ⟨10, _⟩ => ⟨S50x50x9, .f32⟩
  | .hbm, ⟨11, _⟩ => ⟨S22500, .f32⟩
  | .hbm, ⟨12, _⟩ => ⟨S50x50x9, .f32⟩
  | .hbm, ⟨13, _⟩ => ⟨S22500, .f32⟩
  | .hbm, ⟨14, _⟩ => ⟨S50x50x9, .f32⟩
  | .hbm, ⟨15, _⟩ => ⟨S22500, .f32⟩
  | .hbm, ⟨16, _⟩ => ⟨S_, .f32⟩
  | .hbm, ⟨17, _⟩ => ⟨S2x22500, .f32⟩
  | .hbm, ⟨18, _⟩ => ⟨S_, .f32⟩
  | .hbm, ⟨19, _⟩ => ⟨S2x22500, .f32⟩
  | .hbm, ⟨20, _⟩ => ⟨S2x22500, .f32⟩
  | .hbm, ⟨21, _⟩ => ⟨S2x22500x1, .f32⟩
  | .hbm, ⟨22, _⟩ => ⟨S2x22500x2, .f32⟩
  | .hbm, ⟨23, _⟩ => ⟨S2x22500x2, .f32⟩
  | .hbm, ⟨24, _⟩ => ⟨S2x22500x2, .f32⟩
  | .hbm, ⟨25, _⟩ => ⟨S_, .f32⟩
  | .hbm, ⟨26, _⟩ => ⟨S2x22500, .f32⟩
  | .hbm, ⟨27, _⟩ => ⟨S2x22500x1, .f32⟩
  | .hbm, ⟨28, _⟩ => ⟨S2x22500x2, .f32⟩
  | .hbm, ⟨29, _⟩ => ⟨S2x22500x2, .f32⟩
  | .hbm, ⟨30, _⟩ => ⟨S2x22500x1, .f32⟩
  | .hbm, ⟨31, _⟩ => ⟨S2x22500, .f32⟩
  | .hbm, ⟨32, _⟩ => ⟨S2, .f32⟩
  | .hbm, ⟨33, _⟩ => ⟨S2x22500x1, .f32⟩
  | .hbm, ⟨34, _⟩ => ⟨S2x22500, .f32⟩
  | .hbm, ⟨35, _⟩ => ⟨S2x22500x1, .f32⟩
  | .hbm, ⟨36, _⟩ => ⟨S2x22500, .f32⟩
  | .hbm, ⟨37, _⟩ => ⟨S2x22500x1, .f32⟩
  | .hbm, ⟨38, _⟩ => ⟨S2x22500, .f32⟩
  | .hbm, ⟨39, _⟩ => ⟨S2x22500x1, .f32⟩
  | .hbm, ⟨40, _⟩ => ⟨S2x22500, .f32⟩
  | .hbm, ⟨41, _⟩ => ⟨S1x22500, .f32⟩
  | .hbm, ⟨42, _⟩ => ⟨S2x22500, .f32⟩
  | .hbm, ⟨43, _⟩ => ⟨S2x22500, .f32⟩
  | .hbm, ⟨44, _⟩ => ⟨S1x22500, .f32⟩
  | .hbm, ⟨45, _⟩ => ⟨S2x22500, .f32⟩
  | .hbm, ⟨46, _⟩ => ⟨S2x22500, .f32⟩
  | .hbm, ⟨47, _⟩ => ⟨S1x22500, .f32⟩
  | .hbm, ⟨48, _⟩ => ⟨S2x22500, .f32⟩
  | .hbm, ⟨49, _⟩ => ⟨S2x22500, .f32⟩
  | .hbm, ⟨50, _⟩ => ⟨S1x22500, .f32⟩
  | .hbm, ⟨51, _⟩ => ⟨S2x22500, .f32⟩
  | .hbm, ⟨52, _⟩ => ⟨S2x22500, .f32⟩
  | .hbm, ⟨53, _⟩ => ⟨S2x22500, .f32⟩
  | .hbm, ⟨54, _⟩ => ⟨S1x22500, .f32⟩
  | .hbm, ⟨55, _⟩ => ⟨S2x22500, .f32⟩
  | .hbm, ⟨56, _⟩ => ⟨S2x22500, .f32⟩
  | .hbm, ⟨57, _⟩ => ⟨S2x22500, .f32⟩
  | .hbm, ⟨58, _⟩ => ⟨S1x22500, .f32⟩
  | .hbm, ⟨59, _⟩ => ⟨S2x22500, .f32⟩
  | .hbm, ⟨60, _⟩ => ⟨S2x22500, .f32⟩
  | .hbm, ⟨61, _⟩ => ⟨S_, .f32⟩
  | .hbm, ⟨62, _⟩ => ⟨S2x22500, .f32⟩
  | .hbm, ⟨63, _⟩ => ⟨S2x22500, .f32⟩
  | .hbm, ⟨64, _⟩ => ⟨S2x22500, .f32⟩
  | .hbm, ⟨65, _⟩ => ⟨S1, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S2x22500, .f32⟩
  | .hbm, ⟨70, _⟩ => ⟨S2x22500, .f32⟩
  | .hbm, ⟨71, _⟩ => ⟨S2x22500, .f32⟩
  | .hbm, ⟨72, _⟩ => ⟨S2x22500, .f32⟩
  | .hbm, ⟨73, _⟩ => ⟨S_, .f32⟩
  | .hbm, ⟨74, _⟩ => ⟨S2x22500, .f32⟩
  | .hbm, ⟨75, _⟩ => ⟨S2x22500, .f32⟩
  | .hbm, ⟨76, _⟩ => ⟨S2x22500, .f32⟩
  | .hbm, ⟨77, _⟩ => ⟨S1, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S2x22500, .f32⟩
  | .hbm, ⟨82, _⟩ => ⟨S2x22500, .f32⟩
  | .hbm, ⟨83, _⟩ => ⟨S2x22500, .f32⟩
  | .hbm, ⟨84, _⟩ => ⟨S2x22500, .f32⟩
  | .hbm, ⟨85, _⟩ => ⟨S_, .f32⟩
  | .hbm, ⟨86, _⟩ => ⟨S2x22500, .f32⟩
  | .hbm, ⟨87, _⟩ => ⟨S2x22500, .f32⟩
  | .hbm, ⟨88, _⟩ => ⟨S2x22500, .f32⟩
  | .hbm, ⟨89, _⟩ => ⟨S1, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S2x22500, .f32⟩
  | .hbm, ⟨94, _⟩ => ⟨S2x22500, .f32⟩
  | .hbm, ⟨95, _⟩ => ⟨S2x22500, .f32⟩
  | .hbm, ⟨96, _⟩ => ⟨S2x22500, .f32⟩
  | .hbm, ⟨97, _⟩ => ⟨S_, .f32⟩
  | .hbm, ⟨98, _⟩ => ⟨S2x22500, .f32⟩
  | .hbm, ⟨99, _⟩ => ⟨S2x22500, .f32⟩
  | .hbm, ⟨100, _⟩ => ⟨S2x22500, .f32⟩
  | .hbm, ⟨101, _⟩ => ⟨S1, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S2x22500, .f32⟩
  | .hbm, ⟨106, _⟩ => ⟨S2x22500, .f32⟩
  | .hbm, ⟨107, _⟩ => ⟨S2x22500, .f32⟩
  | .hbm, ⟨108, _⟩ => ⟨S2x22500, .f32⟩
  | .hbm, ⟨109, _⟩ => ⟨S2x22500x1, .f32⟩
  | .hbm, ⟨110, _⟩ => ⟨S2x22500x1, .f32⟩
  | .hbm, ⟨111, _⟩ => ⟨S2x22500x1, .f32⟩
  | .hbm, ⟨112, _⟩ => ⟨S2x22500x1, .f32⟩
  | .hbm, ⟨113, _⟩ => ⟨S2x22500x4, .f32⟩
  | .hbm, ⟨114, _⟩ => ⟨S2x22500, .f32⟩
  | .hbm, ⟨115, _⟩ => ⟨S_, .f32⟩
  | .hbm, ⟨116, _⟩ => ⟨S2x22500, .f32⟩
  | .hbm, ⟨117, _⟩ => ⟨S2x22500, .i1⟩
  | .hbm, ⟨118, _⟩ => ⟨S2x22500, .f32⟩
  | .hbm, ⟨119, _⟩ => ⟨S_, .f32⟩
  | .hbm, ⟨120, _⟩ => ⟨S2x22500, .f32⟩
  | .hbm, ⟨121, _⟩ => ⟨S2x22500, .i1⟩
  | .hbm, ⟨122, _⟩ => ⟨S2x22500, .i1⟩
  | .hbm, ⟨123, _⟩ => ⟨S_, .f32⟩
  | .hbm, ⟨124, _⟩ => ⟨S_, .f32⟩
  | .hbm, ⟨125, _⟩ => ⟨S2x22500, .f32⟩
  | .hbm, ⟨126, _⟩ => ⟨S2x22500, .f32⟩
  | _, _ => ⟨S2x22500x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_cst_3 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_4 : Ref sig .tc := ⟨.hbm, 16, rfl⟩
abbrev main_v8 : Ref sig .tc := ⟨.hbm, 17, rfl⟩
abbrev main_cst_5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_6 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_8 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_10 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_14 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_15 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_16 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_17 : Ref sig .tc := ⟨.hbm, 123, rfl⟩
abbrev main_call4_v0 : Ref sig .tc := ⟨.hbm, 124, rfl⟩
abbrev main_call4_v1 : Ref sig .tc := ⟨.hbm, 125, rfl⟩
abbrev main_v86 : Ref sig .tc := ⟨.hbm, 126, rfl⟩

abbrev nD : Nat := 1
abbrev τ : Topo := Topo.v7x

variable {F : FTy → Type} [FloatOps F]
-- ==== Nms.lean ====
abbrev S2x22500x4 : Shape := ⟨3, ![2, 22500, 4]⟩
abbrev S2x22500 : Shape := ⟨2, ![2, 22500]⟩
abbrev S2x3000 : Shape := ⟨2, ![2, 3000]⟩
abbrev S2x3000x1 : Shape := ⟨3, ![2, 3000, 1]⟩
abbrev S_ : Shape := ⟨0, ![]⟩
abbrev S1 : Shape := ⟨1, ![1]⟩
abbrev S1x1x1 : Shape := ⟨3, ![1, 1, 1]⟩
abbrev S2x3000x4 : Shape := ⟨3, ![2, 3000, 4]⟩
abbrev S2x3072x4 : Shape := ⟨3, ![2, 3072, 4]⟩
abbrev S4x2x3072 : Shape := ⟨3, ![4, 2, 3072]⟩
abbrev S4x2x3072x1 : Shape := ⟨4, ![4, 2, 3072, 1]⟩
abbrev S4x2x24x1x128 : Shape := ⟨5, ![4, 2, 24, 1, 128]⟩
abbrev S2x24x1x128 : Shape := ⟨4, ![2, 24, 1, 128]⟩
abbrev S4x1x3072x1 : Shape := ⟨4, ![4, 1, 3072, 1]⟩
abbrev S4x1x24x1x128 : Shape := ⟨5, ![4, 1, 24, 1, 128]⟩
abbrev S1x24x1x128 : Shape := ⟨4, ![1, 24, 1, 128]⟩
abbrev S128x1x128 : Shape := ⟨3, ![128, 1, 128]⟩
abbrev S1x1x1x1x128 : Shape := ⟨5, ![1, 1, 1, 1, 128]⟩
abbrev S1x128 : Shape := ⟨2, ![1, 128]⟩
abbrev S1x1x128x1 : Shape := ⟨4, ![1, 1, 128, 1]⟩
abbrev S128x1 : Shape := ⟨2, ![128, 1]⟩
abbrev S128x128 : Shape := ⟨2, ![128, 128]⟩
abbrev S1x1x1x128 : Shape := ⟨4, ![1, 1, 1, 128]⟩
abbrev S1x1x128 : Shape := ⟨3, ![1, 1, 128]⟩
abbrev S2x3072 : Shape := ⟨2, ![2, 3072]⟩
abbrev S3000 : Shape := ⟨1, ![3000]⟩
abbrev S1x3000 : Shape := ⟨2, ![1, 3000]⟩
abbrev S2x600 : Shape := ⟨2, ![2, 600]⟩
abbrev S2x600x1 : Shape := ⟨3, ![2, 600, 1]⟩
abbrev S2x600x4 : Shape := ⟨3, ![2, 600, 4]⟩
abbrev S1200x4 : Shape := ⟨2, ![1200, 4]⟩

abbrev nBuf : Space → Nat
  | .hbm => 79
  | .vmem => 7
  | .smem => 0
  | _ => 0

abbrev bufTy : (tb : Table) → Fin (tcTables nBuf tb) → BufTy
  | .hbm, ⟨0, _⟩ => ⟨S2x22500x4, .f32⟩
  | .hbm, ⟨1, _⟩ => ⟨S2x22500, .f32⟩
  | .hbm, ⟨2, _⟩ => ⟨S2x22500, .f32⟩
  | .hbm, ⟨3, _⟩ => ⟨S2x22500, .i32⟩
  | .hbm, ⟨4, _⟩ => ⟨S2x22500, .f32⟩
  | .hbm, ⟨5, _⟩ => ⟨S2x22500, .i32⟩
  | .hbm, ⟨6, _⟩ => ⟨S2x3000, .i32⟩
  | .hbm, ⟨7, _⟩ => ⟨S2x3000x1, .i32⟩
  | .hbm, ⟨8, _⟩ => ⟨S_, .i32⟩
  | .hbm, ⟨9, _⟩ => ⟨S2x3000x1, .i32⟩
  | .hbm, ⟨10, _⟩ => ⟨S2x3000x1, .i1⟩
  | .hbm, ⟨11, _⟩ => ⟨S_, .i32⟩
  | .hbm, ⟨12, _⟩ => ⟨S2x3000x1, .i32⟩
  | .hbm, ⟨13, _⟩ => ⟨S2x3000x1, .i32⟩
  | .hbm, ⟨14, _⟩ => ⟨S2x3000x1, .i32⟩
  | .hbm, ⟨15, _⟩ => ⟨S1, .i32⟩
  | .hbm, ⟨16, _⟩ => ⟨S_, .i32⟩
  | .hbm, ⟨17, _⟩ => ⟨S2x3000x1, .i32⟩
  | .hbm, ⟨18, _⟩ => ⟨S2x3000x1, .i1⟩
  | .hbm, ⟨19, _⟩ => ⟨S1x1x1, .i32⟩
  | .hbm, ⟨20, _⟩ => ⟨S2x3000x1, .i32⟩
  | .hbm, ⟨21, _⟩ => ⟨S2x3000x1, .i1⟩
  | .hbm, ⟨22, _⟩ => ⟨S2x3000x1, .i1⟩
  | .hbm, ⟨23, _⟩ => ⟨S_, .i1⟩
  | .hbm, ⟨24, _⟩ => ⟨S2x3000, .i1⟩
  | .hbm, ⟨25, _⟩ => ⟨S2x3000x4, .f32⟩
  | .hbm, ⟨26, _⟩ => ⟨S2x3000x4, .i1⟩
  | .hbm, ⟨27, _⟩ => ⟨S_, .f32⟩
  | .hbm, ⟨28, _⟩ => ⟨S2x3000x4, .f32⟩
  | .hbm, ⟨29, _⟩ => ⟨S2x3000x4, .f32⟩
  | .hbm, ⟨30, _⟩ => ⟨S_, .i32⟩
  | .hbm, ⟨31, _⟩ => ⟨S_, .f32⟩
  | .hbm, ⟨32, _⟩ => ⟨S2x3072x4, .f32⟩
  | .hbm, ⟨33, _⟩ => ⟨S4x2x3072, .f32⟩
  | .hbm, ⟨34, _⟩ => ⟨S4x2x3072x1, .f32⟩
  | .hbm, ⟨35, _⟩ => ⟨S4x2x24x1x128, .f32⟩
  | .hbm, ⟨36, _⟩ => ⟨S2x24x1x128, .f32⟩
  | .hbm, ⟨37, _⟩ => ⟨S2x3072, .f32⟩
  | .hbm, ⟨38, _⟩ => ⟨S2x3000, .f32⟩
  | .hbm, ⟨39, _⟩ => ⟨S_, .f32⟩
  | .hbm, ⟨40, _⟩ => ⟨S2x3000, .f32⟩
  | .hbm, ⟨41, _⟩ => ⟨S2x3000, .i1⟩
  | .hbm, ⟨42, _⟩ => ⟨S3000, .i32⟩
  | .hbm, ⟨43, _⟩ => ⟨S1x3000, .i32⟩
  | .hbm, ⟨44, _⟩ => ⟨S1x3000, .i32⟩
  | .hbm, ⟨45, _⟩ => ⟨S_, .i32⟩
  | .hbm, ⟨46, _⟩ => ⟨S1x3000, .i32⟩
  | .hbm, ⟨47, _⟩ => ⟨S1x3000, .i32⟩
  | .hbm, ⟨48, _⟩ => ⟨S2x3000, .i32⟩
  | .hbm, ⟨49, _⟩ => ⟨S2x3000, .i32⟩
  | .hbm, ⟨50, _⟩ => ⟨S2x3000, .i32⟩
  | .hbm, ⟨51, _⟩ => ⟨S2x3000, .i32⟩
  | .hbm, ⟨52, _⟩ => ⟨S2x3000, .i32⟩
  | .hbm, ⟨53, _⟩ => ⟨S2x3000, .i32⟩
  | .hbm, ⟨54, _⟩ => ⟨S2x600, .i32⟩
  | .hbm, ⟨55, _⟩ => ⟨S2x600x1, .i32⟩
  | .hbm, ⟨56, _⟩ => ⟨S_, .i32⟩
  | .hbm, ⟨57, _⟩ => ⟨S2x600x1, .i32⟩
  | .hbm, ⟨58, _⟩ => ⟨S2x600x1, .i1⟩
  | .hbm, ⟨59, _⟩ => ⟨S_, .i32⟩
  | .hbm, ⟨60, _⟩ => ⟨S2x600x1, .i32⟩
  | .hbm, ⟨61, _⟩ => ⟨S2x600x1, .i32⟩
  | .hbm, ⟨62, _⟩ => ⟨S2x600x1, .i32⟩
  | .hbm, ⟨63, _⟩ => ⟨S1, .i32⟩
  | .hbm, ⟨64, _⟩ => ⟨S_, .i32⟩
  | .hbm, ⟨65, _⟩ => ⟨S2x600x1, .i32⟩
  | .hbm, ⟨66, _⟩ => ⟨S2x600x1, .i1⟩
  | .hbm, ⟨67, _⟩ => ⟨S1x1x1, .i32⟩
  | .hbm, ⟨68, _⟩ => ⟨S2x600x1, .i32⟩
  | .hbm, ⟨69, _⟩ => ⟨S2x600x1, .i1⟩
  | .hbm, ⟨70, _⟩ => ⟨S2x600x1, .i1⟩
  | .hbm, ⟨71, _⟩ => ⟨S_, .i1⟩
  | .hbm, ⟨72, _⟩ => ⟨S2x600, .i1⟩
  | .hbm, ⟨73, _⟩ => ⟨S2x600x4, .f32⟩
  | .hbm, ⟨74, _⟩ => ⟨S2x600x4, .i1⟩
  | .hbm, ⟨75, _⟩ => ⟨S_, .f32⟩
  | .hbm, ⟨76, _⟩ => ⟨S2x600x4, .f32⟩
  | .hbm, ⟨77, _⟩ => ⟨S2x600x4, .f32⟩
  | .hbm, ⟨78, _⟩ => ⟨S1200x4, .f32⟩
  | .local _ .vmem, ⟨0, _⟩ => ⟨S4x1x3072x1, .f32⟩
  | .local _ .vmem, ⟨1, _⟩ => ⟨S4x1x3072x1, .f32⟩
  | .local _ .vmem, ⟨2, _⟩ => ⟨S4x1x24x1x128, .f32⟩
  | .local _ .vmem, ⟨3, _⟩ => ⟨S4x1x24x1x128, .f32⟩
  | .local _ .vmem, ⟨4, _⟩ => ⟨S1x24x1x128, .f32⟩
  | .local _ .vmem, ⟨5, _⟩ => ⟨S1x24x1x128, .f32⟩
  | .local _ .vmem, ⟨6, _⟩ => ⟨S128x1x128, .f32⟩
  | _, _ => ⟨S2x22500x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call1_c : Ref sig .tc := ⟨.hbm, 8, rfl⟩
abbrev main_call1_v0 : Ref sig .tc := ⟨.hbm, 9, rfl⟩
abbrev main_call1_v1 : Ref sig .tc := ⟨.hbm, 10, rfl⟩
abbrev main_call1_c_0 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_c_1 : Ref sig .tc := ⟨.hbm, 15, rfl⟩
abbrev main_call1_c_2 : Ref sig .tc := ⟨.hbm, 16, rfl⟩
abbrev main_call1_v5 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_call1_c_3 : Ref sig .tc := ⟨.hbm, 23, rfl⟩
abbrev main_call1_v11 : Ref sig .tc := ⟨.hbm, 24, rfl⟩
abbrev main_call1_v12 : Ref sig .tc := ⟨.hbm, 25, rfl⟩
abbrev main_call1_v13 : Ref sig .tc := ⟨.hbm, 26, rfl⟩
abbrev main_call1_cst : Ref sig .tc := ⟨.hbm, 27, rfl⟩
abbrev main_call1_v14 : Ref sig .tc := ⟨.hbm, 28, rfl⟩
abbrev main_v4 : Ref sig .tc := ⟨.hbm, 29, rfl⟩
abbrev main_c : Ref sig .tc := ⟨.hbm, 30, rfl⟩
abbrev main_call2_v0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_0 : Ref sig .tc := ⟨.hbm, 45, rfl⟩
abbrev main_v17 : Ref sig .tc := ⟨.hbm, 46, rfl⟩
abbrev main_v18 : Ref sig .tc := ⟨.hbm, 47, rfl⟩
abbrev main_call3_v0 : Ref sig .tc := ⟨.hbm, 48, rfl⟩
abbrev main_call3_v1 : Ref sig .tc := ⟨.hbm, 49, rfl⟩
abbrev main_v19 : Ref sig .tc := ⟨.hbm, 50, rfl⟩
abbrev main_call4_v0 : Ref sig .tc := ⟨.hbm, 51, rfl⟩
abbrev main_call4_v1_0 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_call5_c : Ref sig .tc := ⟨.hbm, 56, rfl⟩
abbrev main_call5_v0 : Ref sig .tc := ⟨.hbm, 57, rfl⟩
abbrev main_call5_v1 : Ref sig .tc := ⟨.hbm, 58, rfl⟩
abbrev main_call5_c_0 : Ref sig .tc := ⟨.hbm, 59, rfl⟩
abbrev main_call5_v2 : Ref sig .tc := ⟨.hbm, 60, rfl⟩
abbrev main_call5_v3 : Ref sig .tc := ⟨.hbm, 61, rfl⟩
abbrev main_call5_v4 : Ref sig .tc := ⟨.hbm, 62, rfl⟩
abbrev main_call5_c_1 : Ref sig .tc := ⟨.hbm, 63, rfl⟩
abbrev main_call5_c_2 : Ref sig .tc := ⟨.hbm, 64, rfl⟩
abbrev main_call5_v5 : Ref sig .tc := ⟨.hbm, 65, rfl⟩
abbrev main_call5_v6 : Ref sig .tc := ⟨.hbm, 66, rfl⟩
abbrev main_call5_v7 : Ref sig .tc := ⟨.hbm, 67, rfl⟩
abbrev main_call5_v8 : Ref sig .tc := ⟨.hbm, 68, rfl⟩
abbrev main_call5_v9 : Ref sig .tc := ⟨.hbm, 69, rfl⟩
abbrev main_call5_v10 : Ref sig .tc := ⟨.hbm, 70, rfl⟩
abbrev main_call5_c_3 : Ref sig .tc := ⟨.hbm, 71, rfl⟩
abbrev main_call5_v11 : Ref sig .tc := ⟨.hbm, 72, rfl⟩
abbrev main_call5_v12 : Ref sig .tc := ⟨.hbm, 73, rfl⟩
abbrev main_call5_v13 : Ref sig .tc := ⟨.hbm, 74, rfl⟩
abbrev main_call5_cst : Ref sig .tc := ⟨.hbm, 75, rfl⟩
abbrev main_call5_v14 : Ref sig .tc := ⟨.hbm, 76, rfl⟩
abbrev main_v23 : Ref sig .tc := ⟨.hbm, 77, rfl⟩
abbrev main_v24 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 24], ![false, false]⟩

def k0_off1 (i : grid0.Coords) : Fin 5 → Nat :=
  let c0 : Index := 0#32
  let c0_0 : Index := 0#32
  let arg1 : BitVec 32 := BitVec.ofNat 32 (i 1).val
  let v0 : Index := Scalar.indexCast arg1
  let c0_1 : Index := 0#32
  let c0_2 : Index := 0#32
  ![0, 0, v0.toNat, 0, 0]
def k0_off2 (i : grid0.Coords) : Fin 5 → Nat :=
  let c1 : Index := 1#32
  let c0_3 : Index := 0#32
  let arg1 : BitVec 32 := BitVec.ofNat 32 (i 1).val
  let v3 : Index := Scalar.indexCast arg1
  let c0_4 : Index := 0#32
  let c0_5 : Index := 0#32
  ![1, 0, v3.toNat, 0, 0]
def k0_off3 (i : grid0.Coords) : Fin 5 → Nat :=
  let c2 : Index := 2#32
  let c0_6 : Index := 0#32
  let arg1 : BitVec 32 := BitVec.ofNat 32 (i 1).val
  let v6 : Index := Scalar.indexCast arg1
  let c0_7 : Index := 0#32
  let c0_8 : Index := 0#32
  ![2, 0, v6.toNat, 0, 0]
def k0_off4 (i : grid0.Coords) : Fin 5 → Nat :=
  let c3 : Index := 3#32
  let c0_9 : Index := 0#32
  let arg1 : BitVec 32 := BitVec.ofNat 32 (i 1).val
  let v9 : Index := Scalar.indexCast arg1
  let c0_10 : Index := 0#32
  let c0_11 : Index := 0#32
  ![3, 0, v9.toNat, 0, 0]
@[reducible] def k0_t1_loop (i : grid0.Coords) : Scf.Loop 32 :=
  let c0_i32 : BitVec 32 := 0#32
  let arg1 : BitVec 32 := BitVec.ofNat 32 (i 1).val
  let v20 : BitVec 32 := Scalar.subi arg1 c0_i32
  let c1_i32 : BitVec 32 := 1#32
  let v22 : BitVec 32 := Scalar.divsi v20 c1_i32
  let v23 : BitVec 32 := Scalar.muli v22 c1_i32
  let v24 : BitVec 32 := Scalar.addi c0_i32 v23
  let c1_i32_14 : BitVec 32 := 1#32
  ⟨c0_i32, v24, c1_i32_14⟩
def k0_off5 (i : grid0.Coords) (k0_t1 : Fin (k0_t1_loop i).trips) : Fin 4 → Nat :=
  let c0_49 : Index := 0#32
  let c0_50 : Index := 0#32
  let c0_i32 : BitVec 32 := 0#32
  let c1_i32_14 : BitVec 32 := 1#32
  let arg6 : BitVec 32 := Scf.iv c0_i32 c1_i32_14 k0_t1
  let c128_i32_48 : BitVec 32 := 128#32
  let v101 : BitVec 32 := Scalar.muli arg6 c128_i32_48
  let v102 : Index := Scalar.indexCast v101
  let c0_51 : Index := 0#32
  ![0, 0, v102.toNat, 0]
def k0_off6 (i : grid0.Coords) (k0_t1 : Fin (k0_t1_loop i).trips) : Fin 4 → Nat :=
  let c1_53 : Index := 1#32
  let c0_54 : Index := 0#32
  let c0_i32 : BitVec 32 := 0#32
  let c1_i32_14 : BitVec 32 := 1#32
  let arg6 : BitVec 32 := Scf.iv c0_i32 c1_i32_14 k0_t1
  let c128_i32_52 : BitVec 32 := 128#32
  let v105 : BitVec 32 := Scalar.muli arg6 c128_i32_52
  let v106 : Index := Scalar.indexCast v105
  let c0_55 : Index := 0#32
  ![1, 0, v106.toNat, 0]
def k0_off7 (i : grid0.Coords) (k0_t1 : Fin (k0_t1_loop i).trips) : Fin 4 → Nat :=
  let c2_57 : Index := 2#32
  let c0_58 : Index := 0#32
  let c0_i32 : BitVec 32 := 0#32
  let c1_i32_14 : BitVec 32 := 1#32
  let arg6 : BitVec 32 := Scf.iv c0_i32 c1_i32_14 k0_t1
  let c128_i32_56 : BitVec 32 := 128#32
  let v109 : BitVec 32 := Scalar.muli arg6 c128_i32_56
  let v110 : Index := Scalar.indexCast v109
  let c0_59 : Index := 0#32
  ![2, 0, v110.toNat, 0]
def k0_off8 (i : grid0.Coords) (k0_t1 : Fin (k0_t1_loop i).trips) : Fin 4 → Nat :=
  let c3_61 : Index := 3#32
  let c0_62 : Index := 0#32
  let c0_i32 : BitVec 32 := 0#32
  let c1_i32_14 : BitVec 32 := 1#32
  let arg6 : BitVec 32 := Scf.iv c0_i32 c1_i32_14 k0_t1
  let c128_i32_60 : BitVec 32 := 128#32
  let v113 : BitVec 32 := Scalar.muli arg6 c128_i32_60
  let v114 : Index := Scalar.indexCast v113
  let c0_63 : Index := 0#32
  ![3, 0, v114.toNat, 0]
def k0_off9 (i : grid0.Coords) (k0_t1 : Fin (k0_t1_loop i).trips) : Fin 4 → Nat :=
  let c0_70 : Index := 0#32
  let c0_i32 : BitVec 32 := 0#32
  let c1_i32_14 : BitVec 32 := 1#32
  let arg6 : BitVec 32 := Scf.iv c0_i32 c1_i32_14 k0_t1
  let v154 : Index := Scalar.indexCast arg6
  let c0_71 : Index := 0#32
  let c0_72 : Index := 0#32
  ![0, v154.toNat, 0, 0]
@[reducible] def k0_t2_loop (i : grid0.Coords) : Scf.Loop 32 :=
  let c0_i32 : BitVec 32 := 0#32
  let arg1 : BitVec 32 := BitVec.ofNat 32 (i 1).val
  let v20 : BitVec 32 := Scalar.subi arg1 c0_i32
  let c1_i32 : BitVec 32 := 1#32
  let v22 : BitVec 32 := Scalar.divsi v20 c1_i32
  let v23 : BitVec 32 := Scalar.muli v22 c1_i32
  let v24 : BitVec 32 := Scalar.addi c0_i32 v23
  let v21 : BitVec 32 := Scalar.addi c0_i32 v20
  let c1_i32_15 : BitVec 32 := 1#32
  ⟨v24, v21, c1_i32_15⟩
def k0_off10 (i : grid0.Coords) (k0_t2 : Fin (k0_t2_loop i).trips) : Fin 4 → Nat :=
  let c0_49 : Index := 0#32
  let c0_50 : Index := 0#32
  let c0_i32 : BitVec 32 := 0#32
  let arg1 : BitVec 32 := BitVec.ofNat 32 (i 1).val
  let v20 : BitVec 32 := Scalar.subi arg1 c0_i32
  let c1_i32 : BitVec 32 := 1#32
  let v22 : BitVec 32 := Scalar.divsi v20 c1_i32
  let v23 : BitVec 32 := Scalar.muli v22 c1_i32
  let v24 : BitVec 32 := Scalar.addi c0_i32 v23
  let c1_i32_15 : BitVec 32 := 1#32
  let arg6 : BitVec 32 := Scf.iv v24 c1_i32_15 k0_t2
  let c128_i32_48 : BitVec 32 := 128#32
  let v101 : BitVec 32 := Scalar.muli arg6 c128_i32_48
  let v102 : Index := Scalar.indexCast v101
  let c0_51 : Index := 0#32
  ![0, 0, v102.toNat, 0]
def k0_off11 (i : grid0.Coords) (k0_t2 : Fin (k0_t2_loop i).trips) : Fin 4 → Nat :=
  let c1_53 : Index := 1#32
  let c0_54 : Index := 0#32
  let c0_i32 : BitVec 32 := 0#32
  let arg1 : BitVec 32 := BitVec.ofNat 32 (i 1).val
  let v20 : BitVec 32 := Scalar.subi arg1 c0_i32
  let c1_i32 : BitVec 32 := 1#32
  let v22 : BitVec 32 := Scalar.divsi v20 c1_i32
  let v23 : BitVec 32 := Scalar.muli v22 c1_i32
  let v24 : BitVec 32 := Scalar.addi c0_i32 v23
  let c1_i32_15 : BitVec 32 := 1#32
  let arg6 : BitVec 32 := Scf.iv v24 c1_i32_15 k0_t2
  let c128_i32_52 : BitVec 32 := 128#32
  let v105 : BitVec 32 := Scalar.muli arg6 c128_i32_52
  let v106 : Index := Scalar.indexCast v105
  let c0_55 : Index := 0#32
  ![1, 0, v106.toNat, 0]
def k0_off12 (i : grid0.Coords) (k0_t2 : Fin (k0_t2_loop i).trips) : Fin 4 → Nat :=
  let c2_57 : Index := 2#32
  let c0_58 : Index := 0#32
  let c0_i32 : BitVec 32 := 0#32
  let arg1 : BitVec 32 := BitVec.ofNat 32 (i 1).val
  let v20 : BitVec 32 := Scalar.subi arg1 c0_i32
  let c1_i32 : BitVec 32 := 1#32
  let v22 : BitVec 32 := Scalar.divsi v20 c1_i32
  let v23 : BitVec 32 := Scalar.muli v22 c1_i32
  let v24 : BitVec 32 := Scalar.addi c0_i32 v23
  let c1_i32_15 : BitVec 32 := 1#32
  let arg6 : BitVec 32 := Scf.iv v24 c1_i32_15 k0_t2
  let c128_i32_56 : BitVec 32 := 128#32
  let v109 : BitVec 32 := Scalar.muli arg6 c128_i32_56
  let v110 : Index := Scalar.indexCast v109
  let c0_59 : Index := 0#32
  ![2, 0, v110.toNat, 0]
def k0_off13 (i : grid0.Coords) (k0_t2 : Fin (k0_t2_loop i).trips) : Fin 4 → Nat :=
  let c3_61 : Index := 3#32
  let c0_62 : Index := 0#32
  let c0_i32 : BitVec 32 := 0#32
  let arg1 : BitVec 32 := BitVec.ofNat 32 (i 1).val
  let v20 : BitVec 32 := Scalar.subi arg1 c0_i32
  let c1_i32 : BitVec 32 := 1#32
  let v22 : BitVec 32 := Scalar.divsi v20 c1_i32
  let v23 : BitVec 32 := Scalar.muli v22 c1_i32
  let v24 : BitVec 32 := Scalar.addi c0_i32 v23
  let c1_i32_15 : BitVec 32 := 1#32
  let arg6 : BitVec 32 := Scf.iv v24 c1_i32_15 k0_t2
  let c128_i32_60 : BitVec 32 := 128#32
  let v113 : BitVec 32 := Scalar.muli arg6 c128_i32_60
  let v114 : Index := Scalar.indexCast v113
  let c0_63 : Index := 0#32
  ![3, 0, v114.toNat, 0]
def k0_off14 (i : grid0.Coords) (k0_t2 : Fin (k0_t2_loop i).trips) : Fin 4 → Nat :=
  let c0_70 : Index := 0#32
  let c0_i32 : BitVec 32 := 0#32
  let arg1 : BitVec 32 := BitVec.ofNat 32 (i 1).val
  let v20 : BitVec 32 := Scalar.subi arg1 c0_i32
  let c1_i32 : BitVec 32 := 1#32
  let v22 : BitVec 32 := Scalar.divsi v20 c1_i32
  let v23 : BitVec 32 := Scalar.muli v22 c1_i32
  let v24 : BitVec 32 := Scalar.addi c0_i32 v23
  let c1_i32_15 : BitVec 32 := 1#32
  let arg6 : BitVec 32 := Scf.iv v24 c1_i32_15 k0_t2
  let v154 : Index := Scalar.indexCast arg6
  let c0_71 : Index := 0#32
  let c0_72 : Index := 0#32
  ![0, v154.toNat, 0, 0]
def k0_off15 (i : grid0.Coords) : Fin 4 → Nat :=
  let c0_17 : Index := 0#32
  let c0_18 : Index := 0#32
  let arg1 : BitVec 32 := BitVec.ofNat 32 (i 1).val
  let c128_i32 : BitVec 32 := 128#32
  let v33 : BitVec 32 := Scalar.muli arg1 c128_i32
  let v34 : Index := Scalar.indexCast v33
  let c0_19 : Index := 0#32
  ![0, 0, v34.toNat, 0]
def k0_off16 (i : grid0.Coords) : Fin 4 → Nat :=
  let c1_21 : Index := 1#32
  let c0_22 : Index := 0#32
  let arg1 : BitVec 32 := BitVec.ofNat 32 (i 1).val
  let c128_i32_20 : BitVec 32 := 128#32
  let v37 : BitVec 32 := Scalar.muli arg1 c128_i32_20
  let v38 : Index := Scalar.indexCast v37
  let c0_23 : Index := 0#32
  ![1, 0, v38.toNat, 0]
def k0_off17 (i : grid0.Coords) : Fin 4 → Nat :=
  let c2_25 : Index := 2#32
  let c0_26 : Index := 0#32
  let arg1 : BitVec 32 := BitVec.ofNat 32 (i 1).val
  let c128_i32_24 : BitVec 32 := 128#32
  let v41 : BitVec 32 := Scalar.muli arg1 c128_i32_24
  let v42 : Index := Scalar.indexCast v41
  let c0_27 : Index := 0#32
  ![2, 0, v42.toNat, 0]
def k0_off18 (i : grid0.Coords) : Fin 4 → Nat :=
  let c3_29 : Index := 3#32
  let c0_30 : Index := 0#32
  let arg1 : BitVec 32 := BitVec.ofNat 32 (i 1).val
  let c128_i32_28 : BitVec 32 := 128#32
  let v45 : BitVec 32 := Scalar.muli arg1 c128_i32_28
  let v46 : Index := Scalar.indexCast v45
  let c0_31 : Index := 0#32
  ![3, 0, v46.toNat, 0]
@[reducible] def k0_t3_loop : Scf.Loop 32 :=
  let c0_i32_41 : BitVec 32 := 0#32
  let c128_i32_42 : BitVec 32 := 128#32
  let v95 : BitVec 32 := Scalar.addi c0_i32_41 c128_i32_42
  let c1_i32_43 : BitVec 32 := 1#32
  ⟨c0_i32_41, v95, c1_i32_43⟩
def k0_off19 (k0_t3 : Fin k0_t3_loop.trips) : Fin 3 → Nat :=
  let c0_i32_41 : BitVec 32 := 0#32
  let c1_i32_43 : BitVec 32 := 1#32
  let arg6 : BitVec 32 := Scf.iv c0_i32_41 c1_i32_43 k0_t3
  let v109 : Index := Scalar.indexCast arg6
  let c0_50 : Index := 0#32
  let c0_51 : Index := 0#32
  ![v109.toNat, 0, 0]
def k0_off20 (i : grid0.Coords) : Fin 4 → Nat :=
  let c0_45 : Index := 0#32
  let arg1 : BitVec 32 := BitVec.ofNat 32 (i 1).val
  let v97 : Index := Scalar.indexCast arg1
  let c0_46 : Index := 0#32
  let c0_47 : Index := 0#32
  ![0, v97.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x1x3072x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x1x24x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x24x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== NmsRefIdeal.lean ====
abbrev S2x22500x4 : Shape := ⟨3, ![2, 22500, 4]⟩
abbrev S2x22500 : Shape := ⟨2, ![2, 22500]⟩
abbrev S2x3000 : Shape := ⟨2, ![2, 3000]⟩
abbrev S2x3000x1 : Shape := ⟨3, ![2, 3000, 1]⟩
abbrev S_ : Shape := ⟨0, ![]⟩
abbrev S1 : Shape := ⟨1, ![1]⟩
abbrev S1x1x1 : Shape := ⟨3, ![1, 1, 1]⟩
abbrev S2x3000x4 : Shape := ⟨3, ![2, 3000, 4]⟩
abbrev S2x1x3000 : Shape := ⟨3, ![2, 1, 3000]⟩
abbrev S2x3000x3000 : Shape := ⟨3, ![2, 3000, 3000]⟩
abbrev S3000 : Shape := ⟨1, ![3000]⟩
abbrev S2x1 : Shape := ⟨2, ![2, 1]⟩
abbrev S1x3000 : Shape := ⟨2, ![1, 3000]⟩
abbrev S2x600 : Shape := ⟨2, ![2, 600]⟩
abbrev S2x600x1 : Shape := ⟨3, ![2, 600, 1]⟩
abbrev S2x600x4 : Shape := ⟨3, ![2, 600, 4]⟩
abbrev S1200x4 : Shape := ⟨2, ![1200, 4]⟩

abbrev nBuf : Space → Nat
  | .hbm => 168
  | .vmem => 0
  | .smem => 0
  | _ => 0

abbrev hbmTy0_0 (i : Nat) : BufTy := match i % 128 with
  | 0 => ⟨S2x22500x4, .f32⟩
  | 1 => ⟨S2x22500, .f32⟩
  | 2 => ⟨S2x22500, .f32⟩
  | 3 => ⟨S2x22500, .i32⟩
  | 4 => ⟨S2x22500, .f32⟩
  | 5 => ⟨S2x22500, .i32⟩
  | 6 => ⟨S2x3000, .i32⟩
  | 7 => ⟨S2x3000x1, .i32⟩
  | 8 => ⟨S_, .i32⟩
  | 9 => ⟨S2x3000x1, .i32⟩
  | 10 => ⟨S2x3000x1, .i1⟩
  | 11 => ⟨S_, .i32⟩
  | 12 => ⟨S2x3000x1, .i32⟩
  | 13 => ⟨S2x3000x1, .i32⟩
  | 14 => ⟨S2x3000x1, .i32⟩
  | 15 => ⟨S1, .i32⟩
  | 16 => ⟨S_, .i32⟩
  | 17 => ⟨S2x3000x1, .i32⟩
  | 18 => ⟨S2x3000x1, .i1⟩
  | 19 => ⟨S1x1x1, .i32⟩
  | 20 => ⟨S2x3000x1, .i32⟩
  | 21 => ⟨S2x3000x1, .i1⟩
  | 22 => ⟨S2x3000x1, .i1⟩
  | 23 => ⟨S_, .i1⟩
  | 24 => ⟨S2x3000, .i1⟩
  | 25 => ⟨S2x3000x4, .f32⟩
  | 26 => ⟨S2x3000x4, .i1⟩
  | 27 => ⟨S_, .f32⟩
  | 28 => ⟨S2x3000x4, .f32⟩
  | 29 => ⟨S2x3000x4, .f32⟩
  | 30 => ⟨S2x3000x1, .f32⟩
  | 31 => ⟨S2x3000, .f32⟩
  | 32 => ⟨S2x3000x1, .f32⟩
  | 33 => ⟨S2x3000, .f32⟩
  | 34 => ⟨S2x3000x1, .f32⟩
  | 35 => ⟨S2x3000, .f32⟩
  | 36 => ⟨S2x3000x1, .f32⟩
  | 37 => ⟨S2x3000, .f32⟩
  | 38 => ⟨S2x3000, .f32⟩
  | 39 => ⟨S_, .f32⟩
  | 40 => ⟨S2x3000, .f32⟩
  | 41 => ⟨S2x3000, .f32⟩
  | 42 => ⟨S2x3000, .f32⟩
  | 43 => ⟨S_, .f32⟩
  | 44 => ⟨S2x3000, .f32⟩
  | 45 => ⟨S2x3000, .f32⟩
  | 46 => ⟨S2x3000, .f32⟩
  | 47 => ⟨S2x3000x1, .f32⟩
  | 48 => ⟨S2x1x3000, .f32⟩
  | 49 => ⟨S2x3000x3000, .f32⟩
  | 50 => ⟨S2x3000x3000, .f32⟩
  | 51 => ⟨S2x3000x3000, .f32⟩
  | 52 => ⟨S2x3000x1, .f32⟩
  | 53 => ⟨S2x1x3000, .f32⟩
  | 54 => ⟨S2x3000x3000, .f32⟩
  | 55 => ⟨S2x3000x3000, .f32⟩
  | 56 => ⟨S2x3000x3000, .f32⟩
  | 57 => ⟨S2x3000x1, .f32⟩
  | 58 => ⟨S2x1x3000, .f32⟩
  | 59 => ⟨S2x3000x3000, .f32⟩
  | 60 => ⟨S2x3000x3000, .f32⟩
  | 61 => ⟨S2x3000x3000, .f32⟩
  | 62 => ⟨S2x3000x1, .f32⟩
  | 63 => ⟨S2x1x3000, .f32⟩
  | 64 => ⟨S2x3000x3000, .f32⟩
  | 65 => ⟨S2x3000x3000, .f32⟩
  | 66 => ⟨S2x3000x3000, .f32⟩
  | 67 => ⟨S2x3000x3000, .f32⟩
  | 68 => ⟨S_, .f32⟩
  | 69 => ⟨S2x3000x3000, .f32⟩
  | 70 => ⟨S2x3000x3000, .f32⟩
  | 71 => ⟨S2x3000x3000, .f32⟩
  | 72 => ⟨S_, .f32⟩
  | 73 => ⟨S2x3000x3000, .f32⟩
  | 74 => ⟨S2x3000x3000, .f32⟩
  | 75 => ⟨S2x3000x3000, .f32⟩
  | 76 => ⟨S2x3000x1, .f32⟩
  | 77 => ⟨S2x1x3000, .f32⟩
  | 78 => ⟨S2x3000x3000, .f32⟩
  | 79 => ⟨S2x3000x3000, .f32⟩
  | 80 => ⟨S2x3000x3000, .f32⟩
  | 81 => ⟨S2x3000x3000, .f32⟩
  | 82 => ⟨S_, .f32⟩
  | 83 => ⟨S2x3000x3000, .f32⟩
  | 84 => ⟨S2x3000x3000, .f32⟩
  | 85 => ⟨S2x3000x3000, .f32⟩
  | 86 => ⟨S3000, .i32⟩
  | 87 => ⟨S_, .i1⟩
  | 88 => ⟨S2x3000, .i1⟩
  | 89 => ⟨S_, .i32⟩
  | 90 => ⟨S_, .i32⟩
  | 91 => ⟨S2x3000x3000, .f32⟩
  | 92 => ⟨S3000, .i32⟩
  | 93 => ⟨S_, .i32⟩
  | 94 => ⟨S_, .i32⟩
  | 95 => ⟨S2x3000, .i1⟩
  | 96 => ⟨S_, .i32⟩
  | 97 => ⟨S_, .i1⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S_, .i32⟩
  | 107 => ⟨S2x1, .i1⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S2x1x3000, .f32⟩
  | 117 => ⟨S2x3000, .f32⟩
  | 118 => ⟨S_, .f32⟩
  | 119 => ⟨S2x3000, .f32⟩
  | 120 => ⟨S2x3000, .i1⟩
  | 121 => ⟨S2x3000, .i1⟩
  | 122 => ⟨S2x3000, .i1⟩
  | 123 => ⟨S_, .i32⟩
  | 124 => ⟨S3000, .i32⟩
  | 125 => ⟨S3000, .i1⟩
  | 126 => ⟨S1x3000, .i1⟩
  | 127 => ⟨S2x3000, .i1⟩
  | _ => ⟨S2x22500x4, .f32⟩

abbrev hbmTy0_1 (i : Nat) : BufTy := match i % 128 with
  | 0 => ⟨S2x3000, .i1⟩
  | 1 => ⟨S2x3000, .i1⟩
  | 2 => ⟨S2x3000, .i1⟩
  | 3 => ⟨S_, .i32⟩
  | 4 => ⟨S_, .i32⟩
  | 5 => ⟨S3000, .i32⟩
  | 6 => ⟨S_, .i32⟩
  | 7 => ⟨S3000, .i32⟩
  | 8 => ⟨S3000, .i32⟩
  | 9 => ⟨S2x3000, .i32⟩
  | 10 => ⟨S2x3000, .i32⟩
  | 11 => ⟨S2x3000, .i32⟩
  | 12 => ⟨S2x3000, .i32⟩
  | 13 => ⟨S2x3000, .i32⟩
  | 14 => ⟨S2x3000, .i32⟩
  | 15 => ⟨S2x600, .i32⟩
  | 16 => ⟨S2x600x1, .i32⟩
  | 17 => ⟨S_, .i32⟩
  | 18 => ⟨S2x600x1, .i32⟩
  | 19 => ⟨S2x600x1, .i1⟩
  | 20 => ⟨S_, .i32⟩
  | 21 => ⟨S2x600x1, .i32⟩
  | 22 => ⟨S2x600x1, .i32⟩
  | 23 => ⟨S2x600x1, .i32⟩
  | 24 => ⟨S1, .i32⟩
  | 25 => ⟨S_, .i32⟩
  | 26 => ⟨S2x600x1, .i32⟩
  | 27 => ⟨S2x600x1, .i1⟩
  | 28 => ⟨S1x1x1, .i32⟩
  | 29 => ⟨S2x600x1, .i32⟩
  | 30 => ⟨S2x600x1, .i1⟩
  | 31 => ⟨S2x600x1, .i1⟩
  | 32 => ⟨S_, .i1⟩
  | 33 => ⟨S2x600, .i1⟩
  | 34 => ⟨S2x600x4, .f32⟩
  | 35 => ⟨S2x600x4, .i1⟩
  | 36 => ⟨S_, .f32⟩
  | 37 => ⟨S2x600x4, .f32⟩
  | 38 => ⟨S2x600x4, .f32⟩
  | 39 => ⟨S1200x4, .f32⟩
  | _ => ⟨S2x22500x4, .f32⟩

abbrev hbmTy (i : Nat) : BufTy := match i / 128 with
  | 0 => hbmTy0_0 i
  | 1 => hbmTy0_1 i
  | _ => ⟨S2x22500x4, .f32⟩

abbrev bufTy : (tb : Table) → Fin (tcTables nBuf tb) → BufTy
  | .hbm, ⟨i, _⟩ => hbmTy i
  | _, _ => ⟨S2x22500x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call1_c : Ref sig .tc := ⟨.hbm, 8, rfl⟩
abbrev main_call1_v0 : Ref sig .tc := ⟨.hbm, 9, rfl⟩
abbrev main_call1_v1 : Ref sig .tc := ⟨.hbm, 10, rfl⟩
abbrev main_call1_c_0 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_c_1 : Ref sig .tc := ⟨.hbm, 15, rfl⟩
abbrev main_call1_c_2 : Ref sig .tc := ⟨.hbm, 16, rfl⟩
abbrev main_call1_v5 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_call1_c_3 : Ref sig .tc := ⟨.hbm, 23, rfl⟩
abbrev main_call1_v11 : Ref sig .tc := ⟨.hbm, 24, rfl⟩
abbrev main_call1_v12 : Ref sig .tc := ⟨.hbm, 25, rfl⟩
abbrev main_call1_v13 : Ref sig .tc := ⟨.hbm, 26, rfl⟩
abbrev main_call1_cst : Ref sig .tc := ⟨.hbm, 27, rfl⟩
abbrev main_call1_v14 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_0 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_1 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_2 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_3 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c : Ref sig .tc := ⟨.hbm, 87, rfl⟩
abbrev main_v57 : Ref sig .tc := ⟨.hbm, 88, rfl⟩
abbrev main_c_4 : Ref sig .tc := ⟨.hbm, 89, rfl⟩
abbrev main_c_5 : Ref sig .tc := ⟨.hbm, 90, rfl⟩
abbrev main_v58_0 : Ref sig .tc := ⟨.hbm, 91, rfl⟩
abbrev main_v58_1 : Ref sig .tc := ⟨.hbm, 92, rfl⟩
abbrev main_v58_2 : Ref sig .tc := ⟨.hbm, 93, rfl⟩
abbrev main_v58_3 : Ref sig .tc := ⟨.hbm, 94, rfl⟩
abbrev main_v58_4 : Ref sig .tc := ⟨.hbm, 95, rfl⟩
abbrev main_while0c_c_11 : Ref sig .tc := ⟨.hbm, 96, rfl⟩
abbrev main_while0c_v68 : Ref sig .tc := ⟨.hbm, 97, rfl⟩
abbrev main_while0b_c_11 : Ref sig .tc := ⟨.hbm, 98, rfl⟩
abbrev main_while0b_v68 : Ref sig .tc := ⟨.hbm, 99, rfl⟩
abbrev main_while0b_c_12 : Ref sig .tc := ⟨.hbm, 100, rfl⟩
abbrev main_while0b_v69 : Ref sig .tc := ⟨.hbm, 101, rfl⟩
abbrev main_while0b_v70 : Ref sig .tc := ⟨.hbm, 102, rfl⟩
abbrev main_while0b_c_13 : Ref sig .tc := ⟨.hbm, 103, rfl⟩
abbrev main_while0b_v71 : Ref sig .tc := ⟨.hbm, 104, rfl⟩
abbrev main_while0b_v72 : Ref sig .tc := ⟨.hbm, 105, rfl⟩
abbrev main_while0b_c_14 : Ref sig .tc := ⟨.hbm, 106, rfl⟩
abbrev main_while0b_v73 : Ref sig .tc := ⟨.hbm, 107, rfl⟩
abbrev main_while0b_c_15 : Ref sig .tc := ⟨.hbm, 108, rfl⟩
abbrev main_while0b_v74 : Ref sig .tc := ⟨.hbm, 109, rfl⟩
abbrev main_while0b_v75 : Ref sig .tc := ⟨.hbm, 110, rfl⟩
abbrev main_while0b_c_16 : Ref sig .tc := ⟨.hbm, 111, rfl⟩
abbrev main_while0b_v76 : Ref sig .tc := ⟨.hbm, 112, rfl⟩
abbrev main_while0b_v77 : Ref sig .tc := ⟨.hbm, 113, rfl⟩
abbrev main_while0b_c_17 : Ref sig .tc := ⟨.hbm, 114, rfl⟩
abbrev main_while0b_c_18 : Ref sig .tc := ⟨.hbm, 115, rfl⟩
abbrev main_while0b_v78 : Ref sig .tc := ⟨.hbm, 116, rfl⟩
abbrev main_while0b_v79 : Ref sig .tc := ⟨.hbm, 117, rfl⟩
abbrev main_while0b_cst_19 : Ref sig .tc := ⟨.hbm, 118, rfl⟩
abbrev main_while0b_v80 : Ref sig .tc := ⟨.hbm, 119, rfl⟩
abbrev main_while0b_v81 : Ref sig .tc := ⟨.hbm, 120, rfl⟩
abbrev main_while0b_v82 : Ref sig .tc := ⟨.hbm, 121, rfl⟩
abbrev main_while0b_v83 : Ref sig .tc := ⟨.hbm, 122, rfl⟩
abbrev main_while0b_v84 : Ref sig .tc := ⟨.hbm, 123, rfl⟩
abbrev main_while0b_v85 : Ref sig .tc := ⟨.hbm, 124, rfl⟩
abbrev main_while0b_v86 : Ref sig .tc := ⟨.hbm, 125, rfl⟩
abbrev main_while0b_v87 : Ref sig .tc := ⟨.hbm, 126, rfl⟩
abbrev main_while0b_v88 : Ref sig .tc := ⟨.hbm, 127, rfl⟩
abbrev main_while0b_v89 : Ref sig .tc := ⟨.hbm, 128, rfl⟩
abbrev main_while0b_v90 : Ref sig .tc := ⟨.hbm, 129, rfl⟩
abbrev main_while0b_v91 : Ref sig .tc := ⟨.hbm, 130, rfl⟩
abbrev main_while0b_c_20 : Ref sig .tc := ⟨.hbm, 131, rfl⟩
abbrev main_while0b_v92 : Ref sig .tc := ⟨.hbm, 132, rfl⟩
abbrev main_v59 : Ref sig .tc := ⟨.hbm, 133, rfl⟩
abbrev main_c_6 : Ref sig .tc := ⟨.hbm, 134, rfl⟩
abbrev main_v60 : Ref sig .tc := ⟨.hbm, 135, rfl⟩
abbrev main_v61 : Ref sig .tc := ⟨.hbm, 136, rfl⟩
abbrev main_call2_v0 : Ref sig .tc := ⟨.hbm, 137, rfl⟩
abbrev main_call2_v1 : Ref sig .tc := ⟨.hbm, 138, rfl⟩
abbrev main_v62 : Ref sig .tc := ⟨.hbm, 139, rfl⟩
abbrev main_call3_v0 : Ref sig .tc := ⟨.hbm, 140, rfl⟩
abbrev main_call3_v1_0 : Ref sig .tc := ⟨.hbm, 141, rfl⟩
abbrev main_v63 : Ref sig .tc := ⟨.hbm, 142, rfl⟩
abbrev main_v64 : Ref sig .tc := ⟨.hbm, 143, rfl⟩
abbrev main_v65 : Ref sig .tc := ⟨.hbm, 144, rfl⟩
abbrev main_call4_c : Ref sig .tc := ⟨.hbm, 145, rfl⟩
abbrev main_call4_v0 : Ref sig .tc := ⟨.hbm, 146, rfl⟩
abbrev main_call4_v1 : Ref sig .tc := ⟨.hbm, 147, rfl⟩
abbrev main_call4_c_0 : Ref sig .tc := ⟨.hbm, 148, rfl⟩
abbrev main_call4_v2 : Ref sig .tc := ⟨.hbm, 149, rfl⟩
abbrev main_call4_v3 : Ref sig .tc := ⟨.hbm, 150, rfl⟩
abbrev main_call4_v4 : Ref sig .tc := ⟨.hbm, 151, rfl⟩
abbrev main_call4_c_1 : Ref sig .tc := ⟨.hbm, 152, rfl⟩
abbrev main_call4_c_2 : Ref sig .tc := ⟨.hbm, 153, rfl⟩
abbrev main_call4_v5 : Ref sig .tc := ⟨.hbm, 154, rfl⟩
abbrev main_call4_v6 : Ref sig .tc := ⟨.hbm, 155, rfl⟩
abbrev main_call4_v7 : Ref sig .tc := ⟨.hbm, 156, rfl⟩
abbrev main_call4_v8 : Ref sig .tc := ⟨.hbm, 157, rfl⟩
abbrev main_call4_v9 : Ref sig .tc := ⟨.hbm, 158, rfl⟩
abbrev main_call4_v10 : Ref sig .tc := ⟨.hbm, 159, rfl⟩
abbrev main_call4_c_3 : Ref sig .tc := ⟨.hbm, 160, rfl⟩
abbrev main_call4_v11 : Ref sig .tc := ⟨.hbm, 161, rfl⟩
abbrev main_call4_v12 : Ref sig .tc := ⟨.hbm, 162, rfl⟩
abbrev main_call4_v13 : Ref sig .tc := ⟨.hbm, 163, rfl⟩
abbrev main_call4_cst : Ref sig .tc := ⟨.hbm, 164, rfl⟩
abbrev main_call4_v14 : Ref sig .tc := ⟨.hbm, 165, rfl⟩
abbrev main_v66 : Ref sig .tc := ⟨.hbm, 166, rfl⟩
abbrev main_v67 : Ref sig .tc := ⟨.hbm, 167, rfl⟩

abbrev nD : Nat := 1
abbrev τ : Topo := Topo.v7x

variable {F : FTy → Type} [FloatOps F]

abbrev main_while0_count : Scf.Loop 32 := ⟨0#32, 3000#32, 1#32⟩
-- ==== Proof.NmsIdealRun.lean ====
/-
  The suppression call's run over the extended reals: its body once, over a generic point, its two counted loops by their generated invariants; what it
  leaves in its result is not named. The arguments end unchanged and every semaphore counter ends at zero.
-/
module

public import proofs.«01_k».proof.Proof.Gen.NmsIdeal.Frame
public import proofs.«01_k».proof.Proof.Gen.NmsIdeal.Skeleton
public import proofs.«01_k».proof.Proof.Gen.NmsIdeal.Loops
public import proofs.«01_k».proof.Proof.Gen.NmsIdeal.Points
public import Idealize.ShloMosaic.Lib.Pipeline.FrameSuffix
public import Idealize.ShloMosaic.Lib.Pipeline.Frame
public import Idealize.ShloMosaic.Lib.Tactic

@[expose] public section

set_option maxRecDepth 16384

noncomputable section

namespace Cert.NmsIdeal.Run

open Cert.NmsIdeal Cert.NmsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The scratch buffer, whole. -/
abbrev scr : Memref sig .tc .vmem S128x1x128 .f32 := Memref.whole cc0_scratch0

/-- What is kept between two points: the scratch at some contents and the generator register at some state. -/
theorem kept (c : Dev nD) : (Pipeline.ΦA spec0 c : sProp 𝕄)
    = iprop((∃ d, owns (c : Thread nD τ) scr fullShare d) ∗ (∃ r, prngReg c r)) := by
  unfold Pipeline.ΦA
  rw [scopedRest0_eq]
  simp only [scr, owns_whole]
  rfl

set_option maxHeartbeats 4000000 in
/-- The body: the two inputs end as they were, the result and the scratch at some contents. -/
theorem body (c : Dev nD) (i : grid0.Coords) (a2 : Memref sig .tc .vmem S4x1x3072x1 .f32) (h2 : a2.IsWhole)
    (a3 : Memref sig .tc .vmem S4x1x24x1x128 .f32) (h3 : a3.IsWhole) (a4 : Memref sig .tc .vmem S1x24x1x128 .f32) (h4 : a4.IsWhole)
    (a5 : Memref sig .tc .vmem S128x1x128 .f32) (h5 : a5.IsWhole)
    (x : Vec F S4x1x3072x1 .f32) (y : Vec F S4x1x24x1x128 .f32) (K : PUnit → sProp 𝕄) :
    iprop(owns (c : Thread nD τ) a2 fullShare x ∗ owns (c : Thread nD τ) a3 fullShare y ∗ (∃ d, owns (c : Thread nD τ) a4 fullShare d)
        ∗ (∃ d, owns (c : Thread nD τ) a5 fullShare d)
        ∗ (iprop(owns (c : Thread nD τ) a2 fullShare x ∗ owns (c : Thread nD τ) a3 fullShare y ∗ (∃ d, owns (c : Thread nD τ) a4 fullShare d)
            ∗ (∃ d, owns (c : Thread nD τ) a5 fullShare d)) -∗ K ⟨⟩))
      ⊢ wp frame (wpE (defs₀ (F := F)) Variants.none c none) Set.univ (cc0__nms_body i a2 h2 a3 h3 a4 h4 a5 h5) K := by
  simp only [cc0__nms_body_eq_skeleton]; unfold cc0__nms_body_skel
  simp only [k0_part1_eq_skeleton, k0_part2_eq_skeleton, k0_part3_eq_skeleton, k0_part4_eq_skeleton]
  unfold owns
  iintro ⟨⟨%f2, %e2, H2⟩, ⟨%f3, %e3, H3⟩, ⟨%d4, %f4, -, H4⟩, ⟨%d5, %f5, -, H5⟩, Hk⟩
  subst e2 e3
  sl_exec
  sl_step
  iapply Hk
  isplitl [H2]
  · iexists f2; isplitr; · ipureintro; rfl
    iexact H2
  isplitl [H3]
  · iexists f3; isplitr; · ipureintro; rfl
    iexact H3
  isplitl [H4]
  · iexists _, _; isplitr; swap; · iexact H4
    ipureintro; rfl
  iexists _, _; isplitr; swap; · iexact H5
  ipureintro; rfl

/-- The result's window is the one of which nothing is said. -/
def unsaid : Fin 3 → Bool := fun w => decide (w = 2)

/-- The run's data: the inputs' blocks stay, the result's contents are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Pipeline.Dat.unnamed (cfg := cfg0) 2 t
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- What the body finds at point `t`, and what it leaves. -/
def Pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare d))
def Post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare d))

theorem point (c : Dev nD) (t : Fin cfg0.N) :
    Pre m c t ⊢ wp frame (wpE (defs₀ (F := F)) Variants.none c none) Set.univ (bodyAt0 t) (fun _ => Post m c t) := by
  unfold Pre Post bodyAt0
  simp only [before0, before1]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, kept, after0, after1]
  iintro ⟨⟨HS, Hg⟩, Ho, ⟨%d0, H0⟩, ⟨%d1, H1⟩, ⟨%d2, H2⟩⟩
  iapply (body c (grid0.coords t) _ _ _ _ _ _ _ _ (iblk m c 0 t) (iblk m c 1 t) _)
  isplitl [H0]; · iexact H0
  isplitl [H1]; · iexact H1
  isplitl [H2]; · iexists _; iexact H2
  isplitl [HS]; · iexact HS
  iintro ⟨H0, H1, H2, HS⟩
  isplitl [HS Hg]
  · isplitl [HS]; · iexact HS
    iexact Hg
  isplitl [Ho]; · iexact Ho
  isplitl [H0]; · iexact H0
  isplitl [H1]; · iexact H1
  iexact H2

theorem row (t : Fin cfg0.N) : defs₀ (F := F) .tc cfg0.body (cfg0.bodyArgs t (cfg0.slots t)) = bodyAt0 t := by
  unfold defs₀; rw [Defs.onTc_tc]

theorem obligation (c : Dev nD) : BodyObligationLoose (dats (F := F) m 0 c) (defs₀ (F := F)) Variants.none () Set.univ unsaid := fun t => by
  rw [bigSep_W0, bigSep_W0, row]
  exact triple_restated (point m c t) rfl .rfl fun _ => .rfl

/-- The buffers the lines after the call may write: all but the arguments. -/
def wr : Finset (Ref sig .tc) := {main_arg0, main_arg1}ᶜ

abbrev tail : List (List (HloOp τ sig (Elt F))) := [hostOps1, hostOps1_1, hostOps1_2, hostOps1_3, hostOps1_4, hostOps1_5]

theorem spares (a : Ref sig .tc) (ha : a = main_arg0 ∨ a = main_arg1) : ∀ ops ∈ (tail : List (List (HloOp τ sig (Elt F)))), ∀ op ∈ ops,
    Proc.devRef .tc a ∉ op.writes := by
  intro ops hops
  simp only [tail, List.mem_cons, List.mem_nil_iff, or_false] at hops
  rcases ha with rfl | rfl <;> rcases hops with rfl | rfl | rfl | rfl | rfl | rfl <;> refine List.forall_iff_forall_mem.mp ?_ <;>
    simp only [hostOps1, hostOps1_1, hostOps1_2, hostOps1_3, hostOps1_4, hostOps1_5, List.Forall, StableHlo.nullary_writes, StableHlo.unary_writes, StableHlo.binary_writes,
      StableHlo.ternary_writes, StableHlo.quaternary_writes, StableHlo.reshape_writes, StableHlo.binaryIndexed_writes, Finset.mem_singleton] <;>
    (repeat' apply And.intro) <;> exact StableHlo.devRef_ne_of_ne (by decide)

theorem writes : ∀ ops ∈ (tail : List (List (HloOp τ sig (Elt F)))), ∀ op ∈ ops, ∀ b : Ref sig .tc, Proc.devRef .tc b ∈ op.writes → b ∈ wr := by
  intro ops hops op hop b hb
  unfold wr
  rw [Finset.mem_compl, Finset.mem_insert, Finset.mem_singleton]
  exact fun h => spares b h ops hops op hop hb

set_option backward.isDefEq.respectTransparency.types false in
set_option maxHeartbeats 800000 in
/-- The run: the arguments end unchanged and every semaphore counter at zero. -/
theorem run : θ_run defs (onTc (τ := τ) (main (F := F))) (s₀ m ρ) (fun r =>
    Pipeline.RDat.FramePostR cfg0 (fun c => (dats m 0 c).toRForget unsaid) wr (fun c b => V0 m c (Proc.devRef .tc b)) r ∧ r.2.sem = fun _ => 0) :=
  Pipeline.θ_run_frame_around_T_forget (Q' := _) cfgs (dats m) (0 : Fin 1) launch0 defs₀ Variants.none unsaid wr m ρ main
    (hbody := obligation m) (hshare := fun c => (dats m 0 c).share_full fun _ => rfl)
    (howed := fun _ _ => rfl) (V₀ := V0 m) (opss := tail) (hsub := sfx_sub) (hfresh := sfx_fresh) (hkeep := sfx_keeps) (hT := writes)
    (hmain := hmain m Variants.none) (hA := A_eq m) (hΦ := fun _ _ => rfl)

theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨((h.1 c).2 main_arg0 (Finset.mem_sdiff.2 ⟨Pipeline.mem_restRefs_of main_arg0 (by decide) (by decide), by decide⟩)).trans (V_main_arg0 m c),
      ((h.1 c).2 main_arg1 (Finset.mem_sdiff.2 ⟨Pipeline.mem_restRefs_of main_arg1 (by decide) (by decide), by decide⟩)).trans (V_main_arg1 m c)⟩, h.2⟩)
    (run m ρ)

end Cert.NmsIdeal.Run

end
-- ==== Proof.NmsMath.lean ====
/-
  Greedy suppression as a rule on indices: an entry stays exactly when no earlier entry that stays suppresses it. The
  sums and products of zeros and ones by which it is computed block by block give the rule.
-/
module

public import Idealize.ShloMosaic.Lib.Pipeline.ValueKit
public import Idealize.ShloMosaic.Lib.Pointwise

@[expose] public section

noncomputable section

namespace Cert.NmsMath

open Idealize.ShloMosaic

/-- Entry `c` stays: no earlier entry that stays suppresses it. -/
def stays (S : ℕ → ℕ → Prop) (c : ℕ) : Prop := ∀ i, (_ : i < c) → ¬(stays S i ∧ S i c)
termination_by c

/-- None of the first `n` entries that stay suppresses `c`. -/
def clear (S : ℕ → ℕ → Prop) (n c : ℕ) : Prop := ∀ i < n, ¬(stays S i ∧ S i c)

theorem stays_iff (S : ℕ → ℕ → Prop) (c : ℕ) : stays S c ↔ clear S c c := by
  rw [stays]; rfl

theorem clear_succ (S : ℕ → ℕ → Prop) (n c : ℕ) : clear S (n + 1) c ↔ clear S n c ∧ ¬(stays S n ∧ S n c) := by
  unfold clear
  constructor
  · exact fun h => ⟨fun i hi => h i (by omega), h n (by omega)⟩
  · rintro ⟨h, h'⟩ i hi
    rcases Nat.lt_succ_iff_lt_or_eq.mp hi with e | rfl
    · exact h i e
    · exact h'

theorem clear_add (S : ℕ → ℕ → Prop) (n k c : ℕ) : clear S (n + k) c ↔ clear S n c ∧ ∀ i : Fin k, ¬(stays S (n + i.val) ∧ S (n + i.val) c) := by
  unfold clear
  constructor
  · exact fun h => ⟨fun i hi => h i (by omega), fun i => h _ (by omega)⟩
  · rintro ⟨h, h'⟩ i hi
    by_cases e : i < n
    · exact h i e
    · have := h' ⟨i - n, by omega⟩
      simpa [show n + (i - n) = i by omega] using this

open Classical in
/-- One where a statement holds, zero where it does not. -/
def ind (P : Prop) : EReal := if P then 1 else 0

theorem ind_congr {P Q : Prop} (h : P ↔ Q) : ind P = ind Q := by rw [propext h]
theorem ind_true {P : Prop} (h : P) : ind P = 1 := by unfold ind; exact if_pos h
theorem ind_false {P : Prop} (h : ¬P) : ind P = 0 := by unfold ind; exact if_neg h
theorem ind_nonneg (P : Prop) : 0 ≤ ind P := by
  by_cases h : P
  · rw [ind_true h]; exact zero_le_one
  · rw [ind_false h]
theorem ind_eq_zero (P : Prop) : ind P = 0 ↔ ¬P := by
  by_cases h : P
  · rw [ind_true h]; simp [h]
  · rw [ind_false h]; simp [h]
theorem ind_pos (P : Prop) : 0 < ind P ↔ P := by
  by_cases h : P
  · rw [ind_true h]; simp [h]
  · rw [ind_false h]; simp [h]
theorem ind_mul (P Q : Prop) : ind P * ind Q = ind (P ∧ Q) := by
  by_cases h : P
  · by_cases h' : Q
    · rw [ind_true h, ind_true h', ind_true ⟨h, h'⟩, one_mul]
    · rw [ind_false h', ind_false (P := P ∧ Q) fun e => h' e.2, mul_zero]
  · rw [ind_false h, ind_false (P := P ∧ Q) fun e => h e.1, zero_mul]
theorem one_sub_ind (P : Prop) : 1 - ind P = ind ¬P := by
  by_cases h : P
  · rw [ind_true h, ind_false (not_not.mpr h)]
    exact EReal.sub_self (by decide) (by decide)
  · rw [ind_false h, ind_true h, sub_zero]

/-- The sums over the earlier blocks: zero exactly where no earlier entry that stays suppresses. -/
theorem cross (S : ℕ → ℕ → Prop) (c : ℕ) (acc : ℕ → EReal) (N : ℕ) (h0 : acc 0 = 0)
    (hs : ∀ n < N, acc (n + 1) = acc n + ∑ i : Fin 128, ind (stays S (128 * n + i.val)) * ind (S (128 * n + i.val) c)) :
    ∀ n ≤ N, 0 ≤ acc n ∧ (acc n = 0 ↔ clear S (128 * n) c) := by
  intro n
  induction n with
  | zero => intro _; rw [h0]; exact ⟨le_rfl, by simp [clear]⟩
  | succ n ih =>
    intro hn
    obtain ⟨h1, h2⟩ := ih (by omega)
    rw [hs n (by omega), show 128 * (n + 1) = 128 * n + 128 by omega, clear_add]
    have hnn : ∀ i ∈ (Finset.univ : Finset (Fin 128)), 0 ≤ ind (stays S (128 * n + i.val)) * ind (S (128 * n + i.val) c) :=
      fun i _ => by rw [ind_mul]; exact ind_nonneg _
    refine ⟨add_nonneg h1 (Finset.sum_nonneg hnn), ?_⟩
    rw [add_eq_zero_iff_of_nonneg h1 (Finset.sum_nonneg hnn), Finset.sum_eq_zero_iff_of_nonneg hnn, h2]
    refine and_congr Iff.rfl ?_
    simp only [ind_mul, ind_eq_zero, Finset.mem_univ, true_implies]

/-- Inside a block, one entry at a time. -/
theorem block (S : ℕ → ℕ → Prop) (r : ℕ) (kv : ℕ → Fin 128 → EReal)
    (h0 : ∀ l, kv 0 l = ind (clear S (128 * r) (128 * r + l.val)))
    (hs : ∀ k : Fin 128, ∀ l, kv (k.val + 1) l
      = kv k.val l * (1 - ind (S (128 * r + k.val) (128 * r + l.val)) * ind (k.val < l.val) * ind (0 < kv k.val k))) :
    ∀ k ≤ 128, ∀ l, kv k l = ind (clear S (128 * r + min k l.val) (128 * r + l.val)) := by
  intro k
  induction k with
  | zero => intro _ l; rw [h0]; simp
  | succ k ih =>
    intro hk l
    have e := hs ⟨k, by omega⟩ l
    dsimp only at e
    rw [e, ih (by omega) l, ih (by omega) ⟨k, by omega⟩]
    simp only [min_self, ind_pos, ind_mul, one_sub_ind, ← stays_iff]
    refine ind_congr ?_
    by_cases hl : k < l.val
    · rw [show min k l.val = k by omega, show min (k + 1) l.val = k + 1 by omega, ← Nat.add_assoc, clear_succ]
      tauto
    · rw [show min k l.val = l.val by omega, show min (k + 1) l.val = l.val by omega]
      tauto

/-- After the whole block every entry stays exactly by the rule. -/
theorem block_end (S : ℕ → ℕ → Prop) (r : ℕ) (kv : ℕ → Fin 128 → EReal)
    (h0 : ∀ l, kv 0 l = ind (clear S (128 * r) (128 * r + l.val)))
    (hs : ∀ k : Fin 128, ∀ l, kv (k.val + 1) l
      = kv k.val l * (1 - ind (S (128 * r + k.val) (128 * r + l.val)) * ind (k.val < l.val) * ind (0 < kv k.val k))) (l : Fin 128) :
    kv 128 l = ind (stays S (128 * r + l.val)) := by
  rw [block S r kv h0 hs 128 le_rfl l, show min 128 l.val = l.val by omega]
  exact ind_congr (stays_iff S _).symm

/-- One entry at a time over a whole list, the marks kept as truth values. -/
theorem whole (S : ℕ → ℕ → Prop) (N : ℕ) (kv : ℕ → ℕ → Prop) (h0 : ∀ c < N, kv 0 c)
    (hs : ∀ k < N, ∀ c < N, (kv (k + 1) c ↔ kv k c ∧ ¬((kv k k ∧ S k c) ∧ k < c))) :
    ∀ c < N, (kv N c ↔ stays S c) := by
  have H : ∀ k ≤ N, ∀ c < N, (kv k c ↔ clear S (min k c) c) := by
    intro k
    induction k with
    | zero => intro _ c hc; exact ⟨fun _ i hi => absurd hi (by simp), fun _ => h0 c hc⟩
    | succ k ih =>
      intro hk c hc
      rw [hs k (by omega) c hc, ih (by omega) c hc, ih (by omega) k (by omega), min_self, ← stays_iff]
      by_cases hl : k < c
      · rw [show min k c = k by omega, show min (k + 1) c = k + 1 by omega, clear_succ]
        tauto
      · rw [show min k c = c by omega, show min (k + 1) c = c by omega]
        tauto
  intro c hc
  rw [H N le_rfl c hc, show min N c = c by omega, stays_iff]

end Cert.NmsMath

end
-- ==== Proof.NmsBody.lean ====
/-
  The suppression call's arithmetic over the extended reals, read at an index: the overlap of two boxes, one trip of the sum over the earlier rows,
  one trip of the products within a row, and where each load of a point reads.
-/
module

public import proofs.«01_k».proof.Proof.NmsIdealRun
public import proofs.«01_k».proof.Proof.NmsMath

@[expose] public section

set_option maxRecDepth 16384

noncomputable section

namespace Cert.NmsIdeal.Val

open Cert.NmsIdeal Cert.NmsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [FloatOps F] [∀ e, Nonempty (Elt F e)]

local notation "𝕄" => MT nD τ sig Unit (Elt F) ℕ (UR sig nD τ) ℕ

open Cert.NmsMath

/-- The overlap of two boxes: their intersection's area over their union's, the union kept off zero. -/
def iou (a b : Fin 4 → EReal) : EReal :=
  Ideal.div (max (min (a 2) (b 2) - max (a 0) (b 0)) 0 * max (min (a 3) (b 3) - max (a 1) (b 1)) 0)
    (max (max (a 2 - a 0) 0 * max (a 3 - a 1) 0 + max (b 2 - b 0) 0 * max (b 3 - b 1) 0
        - max (min (a 2) (b 2) - max (a 0) (b 0)) 0 * max (min (a 3) (b 3) - max (a 1) (b 1)) 0) (Ideal.ofBits .f32 814313567#32))

/-- One box overlaps another by more than the threshold. -/
def over (a b : Fin 4 → EReal) : Prop := Ideal.ofBits .f32 1060320051#32 < iou a b

theorem sitofp_ind (P : Prop) [Decidable P] : (FloatOps.sitofp (F := Ideal) .f32 (BitVec.setWidth 32 (BitVec.ofBool (decide P))) : EReal) = ind P := by
  show (((BitVec.setWidth 32 (BitVec.ofBool (decide P))).toInt : ℝ) : EReal) = ind P
  by_cases h : P
  · rw [ind_true h]; simp [h]
  · rw [ind_false h]; simp [h]

theorem extui_ind (P : Prop) [Decidable P] : ((((Scalar.extui (BitVec.ofBool (decide P)) : BitVec 32).toInt : ℝ)) : EReal) = ind P := by
  by_cases h : P
  · rw [ind_true h]; simp [h, Scalar.extui]
  · rw [ind_false h]; simp [h, Scalar.extui]

theorem sgt_at : ∀ l i : Fin 128, IntOp.cmpi CmpIPredicate.sgt (BitVec.ofNat 32 l.val) (BitVec.ofNat 32 i.val) = BitVec.ofBool (decide (i.val < l.val)) := by
  decide +kernel

theorem eq_at : ∀ k x : Fin 128, IntOp.cmpi CmpIPredicate.eq (BitVec.ofNat 32 x.val) (Scf.iv 0#32 1#32 k.val) = BitVec.ofBool (decide (x = k)) := by
  decide +kernel

theorem pay24_at (v1 v4 v7 v10 : Vec Ideal S1x1x1x1x128 .f32) (c0 c1 c2 c3 : Vec Ideal S1x1x128x1 .f32) (w : Vec Ideal S1x1x1x128 .f32) (acc) (z : Ideal .f32) (hz : z = (0 : EReal)) (l : Fin 128) :
    k0_pay24 v1 v4 v7 v10 acc (k0_pay8 c0 c1 c2 c3) (k0_pay9 (k0_pay18 v1) (k0_pay20 v7) c0 c2) (k0_pay10 (k0_pay19 v4) (k0_pay21 v10) c1 c3)
      z w (ix2 0 l)
      = acc (ix2 0 l) + ∑ x : Fin 128, w (ix4 0 0 0 x) * ind (over ![c0 (ix4 0 0 x 0), c1 (ix4 0 0 x 0), c2 (ix4 0 0 x 0), c3 (ix4 0 0 x 0)]
          ![v1 (ix5 0 0 0 0 l), v4 (ix5 0 0 0 0 l), v7 (ix5 0 0 0 0 l), v10 (ix5 0 0 0 0 l)]) := by
  pointwise [k0_pay24, k0_pay8, k0_pay9, k0_pay10, k0_pay18, k0_pay19, k0_pay20, k0_pay21, k0_pay22, k0_pay4, k0_pay5, k0_pay6, k0_pay7]
  simp only [sitofp_ind, over, iou, Matrix.cons_val, hz]

theorem pay2_at (k : Fin k0_t3_loop.trips) (k' : Fin 128) (hk : k.val = k'.val) (acc : Vec Ideal S1x128 .f32) (w : Vec Ideal S1x1x128 .f32) (l : Fin 128) :
    k0_pay2 k acc w (ix2 0 l) = acc (ix2 0 l) * (1 - w (ix3 0 0 l) * ind (0 < acc (ix2 0 k'))) := by
  pointwise [k0_pay2]
  rw [hk]
  simp only [eq_at, extui_ind]
  have h : ∀ x : Fin 128, Scalar.select (BitVec.ofBool (decide (x = k'))) (acc (ix2 0 x)) 0 = if x = k' then acc (ix2 0 x) else 0 := by
    intro x; by_cases e : x = k' <;> simp [e, Scalar.select]
  simp only [h, Finset.sum_ite_eq', Finset.mem_univ, if_true, Finset.sum_const, Finset.card_univ, Fintype.card_fin, one_smul]

theorem pay26_at (acc : FVec Ideal S1x128 .f32) (l : Fin 128) :
    k0_pay26 acc (ix2 0 l) = ind (acc (ix2 0 l) = 0) := by
  pointwise [k0_pay26]
  simp only [sitofp_ind]

theorem pay23_at (l : Fin 128) :
    k0_pay23 (F := Ideal) (ix2 0 l) = 0 := by
  pointwise [k0_pay23]

theorem pay3_at (acc : FVec Ideal S1x128 .f32) (l : Fin 128) :
    k0_pay3 acc (ix4 0 0 0 l) = acc (ix2 0 l) := by
  pointwise [k0_pay3]

theorem pay1_at (v1 v4 v7 v10 : Vec Ideal S1x1x1x1x128 .f32) (c0 c1 c2 c3 : Vec Ideal S1x1x128x1 .f32) (i l : Fin 128) :
   k0_pay1 (k0_pay22 v1 v4 v7 v10) (iota Kind.tc S128x128 32 [0] iota_S128x128_d0_w32) (iota Kind.tc S128x128 32 [1] iota_S128x128_d1_w32) (k0_pay31 c0 c1 c2 c3)
     (k0_pay32 (k0_pay18 v1) (k0_pay20 v7) c0 c2) (k0_pay33 (k0_pay19 v4) (k0_pay21 v10) c1 c3) (ix3 i 0 l)
     = ind (over ![c0 (ix4 0 0 i 0), c1 (ix4 0 0 i 0), c2 (ix4 0 0 i 0), c3 (ix4 0 0 i 0)]
          ![v1 (ix5 0 0 0 0 l), v4 (ix5 0 0 0 0 l), v7 (ix5 0 0 0 0 l), v10 (ix5 0 0 0 0 l)]) * ind (i.val < l.val) := by
  pointwise [k0_pay1, k0_pay22, k0_pay31, k0_pay32, k0_pay33, k0_pay18, k0_pay19, k0_pay20, k0_pay21, k0_pay27, k0_pay28, k0_pay29, k0_pay30]
  simp only [sgt_at, sitofp_ind, Ideal.ofBits_zero]
  rfl

theorem trips1 : ∀ i : grid0.Coords, (k0_t1_loop i).trips = (i 1).val := by decide +kernel
theorem trips2 : ∀ i : grid0.Coords, (k0_t2_loop i).trips = 0 := by decide +kernel
theorem trips3 : k0_t3_loop.trips = 128 := by decide +kernel
theorem off1 : ∀ i : grid0.Coords, k0_off1 i = ![0, 0, (i 1).val, 0, 0] := by decide +kernel
theorem off2 : ∀ i : grid0.Coords, k0_off2 i = ![1, 0, (i 1).val, 0, 0] := by decide +kernel
theorem off3 : ∀ i : grid0.Coords, k0_off3 i = ![2, 0, (i 1).val, 0, 0] := by decide +kernel
theorem off4 : ∀ i : grid0.Coords, k0_off4 i = ![3, 0, (i 1).val, 0, 0] := by decide +kernel
theorem off20 : ∀ i : grid0.Coords, k0_off20 i = ![0, (i 1).val, 0, 0] := by decide +kernel
theorem off15 : ∀ i : grid0.Coords, k0_off15 i = ![0, 0, 128 * (i 1).val, 0] := by decide +kernel
theorem off16 : ∀ i : grid0.Coords, k0_off16 i = ![1, 0, 128 * (i 1).val, 0] := by decide +kernel
theorem off17 : ∀ i : grid0.Coords, k0_off17 i = ![2, 0, 128 * (i 1).val, 0] := by decide +kernel
theorem off18 : ∀ i : grid0.Coords, k0_off18 i = ![3, 0, 128 * (i 1).val, 0] := by decide +kernel
theorem off5 : ∀ (i : grid0.Coords) k, k0_off5 i k = ![0, 0, 128 * k.val, 0] := by decide +kernel
theorem off6 : ∀ (i : grid0.Coords) k, k0_off6 i k = ![1, 0, 128 * k.val, 0] := by decide +kernel
theorem off7 : ∀ (i : grid0.Coords) k, k0_off7 i k = ![2, 0, 128 * k.val, 0] := by decide +kernel
theorem off8 : ∀ (i : grid0.Coords) k, k0_off8 i k = ![3, 0, 128 * k.val, 0] := by decide +kernel
theorem off9 : ∀ (i : grid0.Coords) k, k0_off9 i k = ![0, k.val, 0, 0] := by decide +kernel
theorem off19 : ∀ k, k0_off19 k = ![k.val, 0, 0] := by decide +kernel

/-- One block of a column of coordinates, read through the column. -/
theorem read_col (v : View sig .tc .vmem S4x1x3072x1 .f32) (f) (off : Fin 4 → ℕ) (inb) (a : Fin 4) (n : ℕ) (h : off = ![a.val, 0, n, 0]) (i : Fin 128) (hi : n + i.val < 3072) :
    View.readAt (Elt F) v (Rect.unit (s := S4x1x3072x1) off S1x1x128x1.size inb).toLoadRect f (ix4 0 0 i 0) = v.read (Elt F) f (ix4 a 0 ⟨n + i.val, hi⟩ 0) := by
  subst h
  refine congrArg (v.read (Elt F) f) (funext fun b => Fin.ext ?_)
  fin_cases b <;> simp [LoadRect.idx_eq_norm, Shape.Idx.norm, ix4]

/-- One row of coordinates, read through all of them. -/
theorem read_row (v : View sig .tc .vmem S4x1x24x1x128 .f32) (f) (off : Fin 5 → ℕ) (inb) (a : Fin 4) (n : Fin 24) (h : off = ![a.val, 0, n.val, 0, 0]) (i : Fin 128) :
    View.readAt (Elt F) v (Rect.unit (s := S4x1x24x1x128) off S1x1x1x1x128.size inb).toLoadRect f (ix5 0 0 0 0 i) = v.read (Elt F) f (ix5 a 0 n 0 i) := by
  subst h
  refine congrArg (v.read (Elt F) f) (funext fun b => Fin.ext ?_)
  fin_cases b <;> simp [LoadRect.idx_eq_norm, Shape.Idx.norm, ix5]

/-- One row of the kept boxes. -/
theorem read_keep (v : View sig .tc .vmem S1x24x1x128 .f32) (f) (off : Fin 4 → ℕ) (inb) (n : Fin 24) (h : off = ![0, n.val, 0, 0]) (i : Fin 128) :
    View.readAt (Elt F) v (Rect.unit (s := S1x24x1x128) off S1x1x1x128.size inb).toLoadRect f (ix4 0 0 0 i) = v.read (Elt F) f (ix4 0 n 0 i) := by
  subst h
  refine congrArg (v.read (Elt F) f) (funext fun b => Fin.ext ?_)
  fin_cases b <;> simp [LoadRect.idx_eq_norm, Shape.Idx.norm, ix4]

/-- One row of the scratch. -/
theorem read_scr (v : View sig .tc .vmem S128x1x128 .f32) (f) (off : Fin 3 → ℕ) (inb) (n : Fin 128) (h : off = ![n.val, 0, 0]) (i : Fin 128) :
    View.readAt (Elt F) v (Rect.unit (s := S128x1x128) off S1x1x128.size inb).toLoadRect f (ix3 0 0 i) = v.read (Elt F) f (ix3 n 0 i) := by
  subst h
  refine congrArg (v.read (Elt F) f) (funext fun b => Fin.ext ?_)
  fin_cases b <;> simp [LoadRect.idx_eq_norm, Shape.Idx.norm, ix3]

end Cert.NmsIdeal.Val

end
-- ==== Proof.NmsRefLoop.lean ====
/-
  The suppression's reference over the extended reals: the overlaps before the loop, one trip of the loop at an index, and
  what the loop ends with.
-/
module

public import proofs.«01_k».proof.Proof.NmsBody
public import proofs.«01_k».proof.Proof.Gen.NmsRefIdeal.Run
public import Idealize.ShloMosaic.Lib.Pipeline.ValueKit
public import Idealize.ShloMosaic.Lib.Pointwise
public import Idealize.ShloMosaic.Lib.DynamicIndex

@[expose] public section

set_option maxRecDepth 16384

noncomputable section

namespace Cert.NmsRefIdeal.Loop

open Idealize.ShloMosaic Idealize.ShloMosaic.TcCoe Idealize.SL.Sem
open Idealize.ShloMosaic.StableHlo (after afterL)
open Cert.NmsRefIdeal Cert.NmsRefIdeal.Gen Cert.NmsRefIdeal.Value
open Cert.NmsIdeal.Val (iou over)

set_option maxHeartbeats 8000000 in
/-- The overlaps before the loop. -/
theorem iou_at (W : Valuation τ sig (Elt Ideal)) (n : Fin 2) (i k : Fin 3000) :
    (show EReal from (after hostOps0_4 W (Proc.devRef .tc main_v58_0) : FVec Ideal S2x3000x3000 .f32) (ix3 n i k))
      = iou (fun a => (W (Proc.devRef .tc main_v4) : FVec Ideal S2x3000x4 .f32) (ix3 n i a))
          (fun a => (W (Proc.devRef .tc main_v4) : FVec Ideal S2x3000x4 .f32) (ix3 n k a)) := by
  simp only [hostOps0_4]
  after_reads_simp
  simp only [id_eq]
  pointwise [iou]

theorem iota_at (W : Valuation τ sig (Elt Ideal)) :
    (after hostOps0_4 W (Proc.devRef .tc main_v58_1) : IVec S3000 32) = iotaInDim S3000 32 0 := by
  simp only [hostOps0_4]
  after_reads_simp
  rfl
theorem ctr_at (W : Valuation τ sig (Elt Ideal)) :
    (after hostOps0_4 W (Proc.devRef .tc main_v58_3) : IVec S_ 32) = fun _ => 0#32 := by
  simp only [hostOps0_4]
  after_reads_simp
  rfl
theorem keep_at (W : Valuation τ sig (Elt Ideal)) :
    (after hostOps0_4 W (Proc.devRef .tc main_v58_4) : IVec S2x3000 1) = fun _ => 1#1 := by
  simp only [hostOps0_4]
  after_reads_simp
  rfl
theorem box_at (W : Valuation τ sig (Elt Ideal)) :
    after hostOps0_4 W (Proc.devRef .tc main_v4) = W (Proc.devRef .tc main_v4) := by
  simp only [hostOps0_4]
  after_reads_simp

/-- The trip's number is not negative, so it is the index itself. -/
theorem pick : ∀ k < 3000, Scalar.select (IntOp.cmpi .slt (BitVec.ofNat 32 k) 0#32) (BitVec.ofNat 32 k + 3000#32) (BitVec.ofNat 32 k) = BitVec.ofNat 32 k
    ∧ (BitVec.ofNat 32 k).toInt = (k : ℤ) := by
  decide +kernel

/-- Whether an entry stays, a carried bit. -/
def bit (V : Valuation τ sig (Elt Ideal)) (n : Fin 2) (j : Fin 3000) : BitVec 1 := (V (Proc.devRef .tc main_v58_4) : IVec S2x3000 1) (ix2 n j)

set_option maxHeartbeats 8000000 in
/-- One trip at an index. -/
theorem trip_at (V : Valuation τ sig (Elt Ideal)) (k : Fin 3000)
    (h3 : (V (Proc.devRef .tc main_v58_3) : IVec S_ 32) = fun _ => BitVec.ofNat 32 k.val)
    (h1 : (V (Proc.devRef .tc main_v58_1) : IVec S3000 32) = iotaInDim S3000 32 0) (n : Fin 2) (j : Fin 3000) :
    (step_main_v58_4 V : IVec S2x3000 1) (ix2 n j)
      = bit V n j &&& ~~~ ((bit V n k &&& BitVec.ofBool (decide (Ideal.ofBits .f32 1060320051#32 < (V (Proc.devRef .tc main_v58_0) : FVec Ideal S2x3000x3000 .f32) (ix3 n k j))))
          &&& IntOp.cmpi .sgt (BitVec.ofNat 32 j.val) (BitVec.ofNat 32 k.val)) := by
  have e : ∀ i : S_.Idx, (select (cmpi .slt (V (Proc.devRef .tc main_v58_3) : IVec S_ 32) (constantI S_ 32 0#32))
      (addi (id (V (Proc.devRef .tc main_v58_3)) : IVec S_ 32) (constantI S_ 32 3000#32)) (V (Proc.devRef .tc main_v58_3)) : IVec S_ 32) i = BitVec.ofNat 32 k.val := by
    intro i
    rw [h3]
    exact (pick k.val k.isLt).1
  unfold step_main_v58_4
  rw [Host.dynamicSlice_eq_extractStridedSlice (s := S2x3000) S2x1 _ _ ![0, k.val] _ ⟨rfl, by intro a; fin_cases a <;> simp <;> omega⟩
      (by
        intro a
        fin_cases a
        · rfl
        · exact (congrArg BitVec.toInt (e _)).trans (pick k.val k.isLt).2),
    Host.dynamicSlice_eq_extractStridedSlice (s := S2x3000x3000) S2x1x3000 _ _ ![0, k.val, 0] _ ⟨rfl, by intro a; fin_cases a <;> simp <;> omega⟩
      (by
        intro a
        fin_cases a
        · rfl
        · exact (congrArg BitVec.toInt (e _)).trans (pick k.val k.isLt).2
        · rfl)]
  rw [h3, h1]
  simp only [id_eq]
  pointwise [bit]
  rfl

end Cert.NmsRefIdeal.Loop

end
-- ==== Proof.NmsPoint.lean ====
/-
  One point of the suppression call over the extended reals: with the earlier rows of the image's result right, the row it writes is right and the
  earlier rows stay.
-/
module

public import proofs.«01_k».proof.Proof.NmsIdealRun
public import proofs.«01_k».proof.Proof.NmsBody
public import Idealize.ShloMosaic.Lib.VecWindow

@[expose] public section

set_option maxRecDepth 16384

noncomputable section

namespace Cert.NmsIdeal.Val

open Cert.NmsIdeal Cert.NmsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

open Cert.NmsMath

local notation "𝕄" => MT nD τ sig Unit (Elt Ideal) ℕ (UR sig nD τ) ℕ

/-- Which of the boxes with coordinates `P` suppresses which. -/
def S (P : Fin 4 → ℕ → EReal) (a b : ℕ) : Prop := over (fun k => P k a) (fun k => P k b)

section

variable (c : Dev nD) (i : grid0.Coords) (a2 : Memref sig .tc .vmem S4x1x3072x1 .f32) (h2 : a2.IsWhole)
    (a3 : Memref sig .tc .vmem S4x1x24x1x128 .f32) (h3 : a3.IsWhole) (a4 : Memref sig .tc .vmem S1x24x1x128 .f32) (h4 : a4.IsWhole)
    (a5 : Memref sig .tc .vmem S128x1x128 .f32) (h5 : a5.IsWhole)

theorem trip1 (v1 v4 v7 v10 : Vec Ideal S1x1x1x1x128 .f32) (X2) (X4) (k : Fin (k0_t1_loop i).trips) (acc) (P : Fin 4 → ℕ → EReal) (l : Fin 128) (q : ℕ)
    (e0 : v1 (ix5 0 0 0 0 l) = P 0 q) (e1 : v4 (ix5 0 0 0 0 l) = P 1 q) (e2 : v7 (ix5 0 0 0 0 l) = P 2 q) (e3 : v10 (ix5 0 0 0 0 l) = P 3 q)
    (hx : ∀ a (n : Fin 3072), a2.view.read (Elt Ideal) X2 (ix4 a 0 n 0) = P a n.val) (hk : k.val < 24) :
    tripR_k0_t1 (F := Ideal) Variants.none c none i a2 h2 a3 h3 a4 h4 a5 h5 v1 v4 v7 v10 X2 X4 k acc (ix2 0 l)
      = acc (ix2 0 l) + ∑ x : Fin 128, a4.view.read (Elt Ideal) X4 (ix4 0 ⟨k.val, hk⟩ 0 x) * ind (S P (128 * k.val + x.val) q) := by
  unfold tripR_k0_t1 trip_k0_t1
  dsimp only
  refine (pay24_at _ _ _ _ _ _ _ _ _ _ _ (Ideal.ofBits_zero .f32) l).trans ?_
  refine congrArg (acc (ix2 0 l) + ·) (Finset.sum_congr rfl fun x _ => ?_)
  have hb : 128 * k.val + x.val < 3072 := by omega
  rw [read_keep a4.view X4 _ _ ⟨k.val, hk⟩ (off9 i k) x, read_col a2.view X2 _ _ 0 (128 * k.val) (off5 i k) x hb,
    read_col a2.view X2 _ _ 1 (128 * k.val) (off6 i k) x hb, read_col a2.view X2 _ _ 2 (128 * k.val) (off7 i k) x hb,
    read_col a2.view X2 _ _ 3 (128 * k.val) (off8 i k) x hb, hx, hx, hx, hx, e0, e1, e2, e3]
  unfold S
  refine congrArg₂ (fun u v => _ * ind (over u v)) (funext fun a => ?_) (funext fun a => ?_) <;> fin_cases a <;> rfl

theorem trip3 (X5) (k : Fin k0_t3_loop.trips) (k' : Fin 128) (hk : k.val = k'.val) (acc) (l : Fin 128) :
    tripR_k0_t3 (F := Ideal) Variants.none c none i a2 h2 a3 h3 a4 h4 a5 h5 X5 k acc (ix2 0 l)
      = acc (ix2 0 l) * (1 - a5.view.read (Elt Ideal) X5 (ix3 k' 0 l) * ind (0 < acc (ix2 0 k'))) := by
  unfold tripR_k0_t3 trip_k0_t3
  dsimp only
  refine (pay2_at k k' hk _ _ l).trans ?_
  rw [read_scr a5.view X5 _ _ k' (hk ▸ off19 k) l]

variable (f2 : BufTy.Contents (Elt Ideal) a2.view.ty) (f3 : BufTy.Contents (Elt Ideal) a3.view.ty) (f4 : BufTy.Contents (Elt Ideal) a4.view.ty)

/-- A row of the boxes, one coordinate of it. -/
abbrev rowAt (off : Fin 5 → ℕ) (inb : ∀ a, off a + S1x1x1x1x128.size a ≤ S4x1x24x1x128.size a) : Vec Ideal S1x1x1x1x128 .f32 :=
  View.readAt (Elt Ideal) a3.view (Rect.unit (s := S4x1x24x1x128) off S1x1x1x1x128.size inb).toLoadRect f3
/-- A block of a column of the boxes, one coordinate of it. -/
abbrev colAt (off : Fin 4 → ℕ) (inb : ∀ a, off a + S1x1x128x1.size a ≤ S4x1x3072x1.size a) : Vec Ideal S1x1x128x1 .f32 :=
  View.readAt (Elt Ideal) a2.view (Rect.unit (s := S4x1x3072x1) off S1x1x128x1.size inb).toLoadRect f2

/-- The sums over the earlier rows. -/
def sums : ℕ → FVec Ideal S1x128 .f32 :=
  st_k0_t1 Variants.none c none i a2 h2 a3 h3 a4 h4 a5 h5 (rowAt a3 f3 (k0_off1 i) (k0_off1_inb i)) (rowAt a3 f3 (k0_off2 i) (k0_off2_inb i))
    (rowAt a3 f3 (k0_off3 i) (k0_off3_inb i)) (rowAt a3 f3 (k0_off4 i) (k0_off4_inb i)) f2 f4 k0_pay23

/-- What the scratch holds while the row is worked through. -/
def inner : Vec Ideal S128x1x128 .f32 :=
  k0_pay1 (k0_pay22 (rowAt a3 f3 (k0_off1 i) (k0_off1_inb i)) (rowAt a3 f3 (k0_off2 i) (k0_off2_inb i)) (rowAt a3 f3 (k0_off3 i) (k0_off3_inb i)) (rowAt a3 f3 (k0_off4 i) (k0_off4_inb i)))
    (iota Kind.tc S128x128 32 [0] iota_S128x128_d0_w32) (iota Kind.tc S128x128 32 [1] iota_S128x128_d1_w32)
    (k0_pay31 (colAt a2 f2 (k0_off15 i) (k0_off15_inb i)) (colAt a2 f2 (k0_off16 i) (k0_off16_inb i)) (colAt a2 f2 (k0_off17 i) (k0_off17_inb i)) (colAt a2 f2 (k0_off18 i) (k0_off18_inb i)))
    (k0_pay32 (k0_pay18 (rowAt a3 f3 (k0_off1 i) (k0_off1_inb i))) (k0_pay20 (rowAt a3 f3 (k0_off3 i) (k0_off3_inb i))) (colAt a2 f2 (k0_off15 i) (k0_off15_inb i)) (colAt a2 f2 (k0_off17 i) (k0_off17_inb i)))
    (k0_pay33 (k0_pay19 (rowAt a3 f3 (k0_off2 i) (k0_off2_inb i))) (k0_pay21 (rowAt a3 f3 (k0_off4 i) (k0_off4_inb i))) (colAt a2 f2 (k0_off16 i) (k0_off16_inb i)) (colAt a2 f2 (k0_off18 i) (k0_off18_inb i)))

variable (P : Fin 4 → ℕ → EReal) (hx : ∀ a (n : Fin 3072), a2.view.read (Elt Ideal) f2 (ix4 a 0 n 0) = P a n.val)
    (hy : ∀ a (n : Fin 24) (l : Fin 128), a3.view.read (Elt Ideal) f3 (ix5 a 0 n 0 l) = P a (128 * n.val + l.val))
    (hd : ∀ (j : Fin 24), j.val < (i 1).val → ∀ l : Fin 128, a4.view.read (Elt Ideal) f4 (ix4 0 j 0 l) = ind (stays (S P) (128 * j.val + l.val)))

include hy in
theorem rowAt_at (off inb) (a : Fin 4) (h : off = ![a.val, 0, (i 1).val, 0, 0]) (l : Fin 128) :
    rowAt a3 f3 off inb (ix5 0 0 0 0 l) = P a (128 * (i 1).val + l.val) :=
  (read_row a3.view f3 off inb a ⟨(i 1).val, (i 1).isLt⟩ h l).trans (hy a _ l)

include hx in
theorem colAt_at (off inb) (a : Fin 4) (h : off = ![a.val, 0, 128 * (i 1).val, 0]) (l : Fin 128) :
    colAt a2 f2 off inb (ix4 0 0 l 0) = P a (128 * (i 1).val + l.val) :=
  (read_col a2.view f2 off inb a (128 * (i 1).val) h l (by have : (i 1).val < 24 := (i 1).isLt; omega)).trans (hx a _)

include hx hy hd in
theorem sums_at (l : Fin 128) : sums c i a2 h2 a3 h3 a4 h4 a5 h5 f2 f3 f4 (i 1).val (ix2 0 l) = 0 ↔ clear (S P) (128 * (i 1).val) (128 * (i 1).val + l.val) := by
  refine (cross (S P) (128 * (i 1).val + l.val) (fun n => sums c i a2 h2 a3 h3 a4 h4 a5 h5 f2 f3 f4 n (ix2 0 l)) (i 1).val ?_ ?_ _ le_rfl).2
  · exact pay23_at l
  · intro n hn
    have ht : n < (k0_t1_loop i).trips := by rw [trips1]; exact hn
    have h24 : n < 24 := hn.trans (i 1).isLt
    show st_k0_t1 _ _ _ _ _ _ _ _ _ _ _ _ _ _ _ _ _ _ _ (n + 1) (ix2 0 l) = _
    rw [st_k0_t1_succ (k := ⟨n, ht⟩), trip1 (P := P) (q := 128 * (i 1).val + l.val) (hx := hx) (hk := h24)]
    · refine congrArg₂ (· + ·) rfl (Finset.sum_congr rfl fun x _ => ?_)
      rw [hd ⟨n, h24⟩ hn x]
    · exact rowAt_at i a3 f3 P hy _ _ 0 (off1 i) l
    · exact rowAt_at i a3 f3 P hy _ _ 1 (off2 i) l
    · exact rowAt_at i a3 f3 P hy _ _ 2 (off3 i) l
    · exact rowAt_at i a3 f3 P hy _ _ 3 (off4 i) l

include hx hy in
theorem inner_at (k l : Fin 128) : inner i a2 a3 f2 f3 (ix3 k 0 l) = ind (S P (128 * (i 1).val + k.val) (128 * (i 1).val + l.val)) * ind (k.val < l.val) := by
  unfold inner
  refine (pay1_at _ _ _ _ _ _ _ _ k l).trans ?_
  rw [rowAt_at i a3 f3 P hy _ _ 0 (off1 i) l, rowAt_at i a3 f3 P hy _ _ 1 (off2 i) l, rowAt_at i a3 f3 P hy _ _ 2 (off3 i) l, rowAt_at i a3 f3 P hy _ _ 3 (off4 i) l,
    colAt_at i a2 f2 P hx _ _ 0 (off15 i) k, colAt_at i a2 f2 P hx _ _ 1 (off16 i) k, colAt_at i a2 f2 P hx _ _ 2 (off17 i) k, colAt_at i a2 f2 P hx _ _ 3 (off18 i) k]
  unfold S
  refine congrArg₂ (fun u v => ind (over u v) * _) (funext fun a => ?_) (funext fun a => ?_) <;> fin_cases a <;> rfl

include hx hy hd in
theorem row_out (X5 : BufTy.Contents (Elt Ideal) a5.view.ty) (init : FVec Ideal S1x128 .f32) (hX : a5.view.read (Elt Ideal) X5 = inner i a2 a3 f2 f3)
    (hi : init = k0_pay26 (sums c i a2 h2 a3 h3 a4 h4 a5 h5 f2 f3 f4 (k0_t1_loop i).trips)) (l : Fin 128) :
    st_k0_t3 Variants.none c none i a2 h2 a3 h3 a4 h4 a5 h5 X5 init k0_t3_loop.trips (ix2 0 l) = ind (stays (S P) (128 * (i 1).val + l.val)) := by
  rw [hi, trips3, trips1]
  refine block_end (S P) (i 1).val (fun k l => st_k0_t3 Variants.none c none i a2 h2 a3 h3 a4 h4 a5 h5 X5
    (k0_pay26 (sums c i a2 h2 a3 h3 a4 h4 a5 h5 f2 f3 f4 (i 1).val)) k (ix2 0 l)) ?_ ?_ l
  · intro l
    exact (pay26_at _ l).trans (ind_congr (sums_at c i a2 h2 a3 h3 a4 h4 a5 h5 f2 f3 f4 P hx hy hd l))
  · intro k l
    have hk : k.val < k0_t3_loop.trips := by rw [trips3]; exact k.isLt
    show st_k0_t3 _ _ _ _ _ _ _ _ _ _ _ _ _ _ (k.val + 1) (ix2 0 l) = _
    rw [st_k0_t3_succ (k := ⟨k.val, hk⟩), trip3 (k := ⟨k.val, hk⟩) (k' := k) (hk := rfl), hX, inner_at i a2 a3 f2 f3 P hx hy]

end

theorem put_row (x : Vec Ideal S1x24x1x128 .f32) (n : Fin 24) (w : Vec Ideal S1x1x1x128 .f32) (j : Fin 24) (l : Fin 128) :
    VecWindow.put x ![0, n.val, 0, 0] S1x1x1x128.size w (ix4 0 j 0 l) = if j = n then w (ix4 0 0 0 l) else x (ix4 0 j 0 l) := by
  unfold VecWindow.put
  by_cases h : j = n
  · subst h
    rw [if_pos rfl, dif_pos (by intro a; fin_cases a <;> simp [ix4])]
    refine congrArg w (funext fun a => Fin.ext ?_)
    fin_cases a <;> simp [Rect.unitLocal, ix4]
  · rw [if_neg h, dif_neg]
    intro e
    have := e 1
    simp [ix4] at this
    exact h (Fin.ext (by omega))

/-- The rows before `n` of an image's result are right. -/
def Right (P : Fin 4 → ℕ → EReal) (n : ℕ) (d : Vec Ideal S1x24x1x128 .f32) : Prop :=
  ∀ (j : Fin 24), j.val < n → ∀ l : Fin 128, d (ix4 0 j 0 l) = ind (stays (S P) (128 * j.val + l.val))

set_option maxHeartbeats 4000000 in
/-- The body: the two inputs end as they were; if the earlier rows of the result were right, the point's row is right too. -/
theorem body (c : Dev nD) (i : grid0.Coords) (a2 : Memref sig .tc .vmem S4x1x3072x1 .f32) (h2 : a2.IsWhole)
    (a3 : Memref sig .tc .vmem S4x1x24x1x128 .f32) (h3 : a3.IsWhole) (a4 : Memref sig .tc .vmem S1x24x1x128 .f32) (h4 : a4.IsWhole)
    (a5 : Memref sig .tc .vmem S128x1x128 .f32) (h5 : a5.IsWhole)
    (x : Vec Ideal S4x1x3072x1 .f32) (y : Vec Ideal S4x1x24x1x128 .f32) (d : Vec Ideal S1x24x1x128 .f32) (P : Fin 4 → ℕ → EReal)
    (hx : ∀ a (n : Fin 3072), x (ix4 a 0 n 0) = P a n.val)
    (hy : ∀ a (n : Fin 24) (l : Fin 128), y (ix5 a 0 n 0 l) = P a (128 * n.val + l.val)) (K : PUnit → sProp 𝕄) :
    iprop(owns (c : Thread nD τ) a2 fullShare x ∗ owns (c : Thread nD τ) a3 fullShare y ∗ owns (c : Thread nD τ) a4 fullShare d
        ∗ (∃ d, owns (c : Thread nD τ) a5 fullShare d)
        ∗ (iprop(owns (c : Thread nD τ) a2 fullShare x ∗ owns (c : Thread nD τ) a3 fullShare y
            ∗ (∃ d', ⌜Right P (i 1).val d → Right P ((i 1).val + 1) d'⌝ ∗ owns (c : Thread nD τ) a4 fullShare d')
            ∗ (∃ d, owns (c : Thread nD τ) a5 fullShare d)) -∗ K ⟨⟩))
      ⊢ wp frame (wpE (defs₀ (F := Ideal)) Variants.none c none) Set.univ (cc0__nms_body i a2 h2 a3 h3 a4 h4 a5 h5) K := by
  simp only [cc0__nms_body_eq_skeleton]; unfold cc0__nms_body_skel
  simp only [k0_part1_eq_skeleton, k0_part2_eq_skeleton, k0_part3_eq_skeleton, k0_part4_eq_skeleton]
  unfold owns
  iintro ⟨⟨%f2, %e2, H2⟩, ⟨%f3, %e3, H3⟩, ⟨%f4, %e4, H4⟩, ⟨%d5, %f5, -, H5⟩, Hk⟩
  subst e2 e3 e4
  sl_exec
  sl_step
  iapply Hk
  isplitl [H2]
  · iexists f2; isplitr; · ipureintro; rfl
    iexact H2
  isplitl [H3]
  · iexists f3; isplitr; · ipureintro; rfl
    iexact H3
  isplitl [H4]
  · iexists _; isplitr
    swap
    · iexists _; isplitr; swap; · iexact H4
      ipureintro; rfl
    ipureintro
    intro hd j hj l
    rw [View.read_writes_cons_put (h := off20 i), View.writes_nil]
    refine (put_row _ ⟨(i 1).val, (i 1).isLt⟩ _ j l).trans ?_
    by_cases e : j = ⟨(i 1).val, (i 1).isLt⟩
    · rw [if_pos e]
      subst e
      refine (pay3_at _ l).trans ?_
      refine row_out c i a2 h2 a3 h3 a4 h4 a5 h5 f2 f3 f4 P hx hy hd _ _ ?_ ?_ l
      · unfold Cert.NmsIdeal.Val.body.sl.H5_1
        exact View.read_writes_full a5.view _ _ _ _
      · unfold Cert.NmsIdeal.Val.body.sl.r_5
        rw [show Scf.trips (k0_t2_loop i).lb (k0_t2_loop i).ub (k0_t2_loop i).st = 0 from trips2 i]
        rfl
    · rw [if_neg e]
      refine hd j ?_ l
      rcases Nat.lt_succ_iff_lt_or_eq.mp hj with h | h
      · exact h
      · exact absurd (Fin.ext h) e
  iexists _, _; isplitr; swap; · iexact H5
  ipureintro; rfl

end Cert.NmsIdeal.Val

end
-- ==== Proof.NmsRefKeep.lean ====
/-
  The suppression's reference over the extended reals: what the loop ends with is the greedy rule on the boxes' overlaps.
-/
module

public import proofs.«01_k».proof.Proof.NmsRefLoop
public import proofs.«01_k».proof.Proof.NmsPoint

@[expose] public section

set_option maxRecDepth 16384

noncomputable section

namespace Cert.NmsRefIdeal.Loop

open Idealize.ShloMosaic Idealize.ShloMosaic.TcCoe Idealize.SL.Sem
open Idealize.ShloMosaic.StableHlo (after afterL)
open Cert.NmsRefIdeal Cert.NmsRefIdeal.Gen Cert.NmsRefIdeal.Value
open Cert.NmsIdeal.Val (iou over S)
open Cert.NmsMath (stays whole)

/-- Coordinate `a` of box `k` of image `n`, of the 3000 boxes; nothing after them. -/
def box (b : FVec Ideal ⟨3, ![2, 3000, 4]⟩ .f32) (n : Fin 2) (a : Fin 4) (k : ℕ) : EReal :=
  if h : k < 3000 then b (ix3 n ⟨k, h⟩ a) else 0

theorem box_at_fin (b : FVec Ideal ⟨3, ![2, 3000, 4]⟩ .f32) (n : Fin 2) (a : Fin 4) (k : Fin 3000) : box b n a k.val = b (ix3 n k a) := by
  unfold box
  rw [dif_pos k.isLt]

theorem later {j k : ℕ} (hj : j < 3000) (hk : k < 3000) : IntOp.cmpi .sgt (BitVec.ofNat 32 j) (BitVec.ofNat 32 k) = 1#1 ↔ k < j := by
  show BitVec.ofBool ((BitVec.ofNat 32 k).slt (BitVec.ofNat 32 j)) = 1#1 ↔ _
  rw [BitVec.slt, (pick j hj).2, (pick k hk).2]
  by_cases h : k < j
  · simp [h]
  · simp [h]

theorem logic : ∀ (b x q : BitVec 1) (p : Bool), b &&& ~~~((x &&& BitVec.ofBool p) &&& q) = 1#1 ↔ b = 1#1 ∧ ¬((x = 1#1 ∧ p = true) ∧ q = 1#1) := by
  decide

variable (W : Valuation τ sig (Elt Ideal))

/-- The carried buffers after `k` trips. -/
def at_ (k : ℕ) : Valuation τ sig (Elt Ideal) := STEP^[k] (after hostOps0_4 W)

theorem at_succ (k : ℕ) : at_ W (k + 1) = STEP (at_ W k) := by
  unfold at_
  rw [Function.iterate_succ_apply']

theorem at_iou (k : ℕ) : at_ W k (Proc.devRef .tc main_v58_0) = after hostOps0_4 W (Proc.devRef .tc main_v58_0) := by
  induction k with
  | zero => rfl
  | succ k ih => rw [at_succ, STEP_main_v58_0, ih]

theorem at_iota (k : ℕ) : (at_ W k (Proc.devRef .tc main_v58_1) : IVec S3000 32) = iotaInDim S3000 32 0 := by
  induction k with
  | zero => exact iota_at W
  | succ k ih => rw [at_succ, STEP_main_v58_1]; exact ih

theorem at_ctr (k : ℕ) : (at_ W k (Proc.devRef .tc main_v58_3) : IVec S_ 32) = fun _ => BitVec.ofNat 32 k := by
  induction k with
  | zero => exact ctr_at W
  | succ k ih =>
    rw [at_succ, STEP_main_v58_3]
    unfold step_main_v58_3
    rw [ih]
    funext i
    show BitVec.ofNat 32 k + 1#32 = _
    rw [BitVec.ofNat_add]

theorem at_bit (n : Fin 2) (k j : Fin 3000) : bit (at_ W (k.val + 1)) n j = 1#1 ↔ bit (at_ W k.val) n j = 1#1
    ∧ ¬((bit (at_ W k.val) n k = 1#1 ∧ S (box (W (Proc.devRef .tc main_v4)) n) k.val j.val) ∧ k.val < j.val) := by
  have e : bit (at_ W (k.val + 1)) n j = (step_main_v58_4 (at_ W k.val) : IVec S2x3000 1) (ix2 n j) := by
    unfold bit
    rw [at_succ, STEP_main_v58_4]
  have hi : (show EReal from (at_ W k.val (Proc.devRef .tc main_v58_0) : FVec Ideal S2x3000x3000 .f32) (ix3 n k j))
      = iou (fun a => box (W (Proc.devRef .tc main_v4)) n a k.val) (fun a => box (W (Proc.devRef .tc main_v4)) n a j.val) := by
    simp only [box_at_fin]
    rw [at_iou]
    exact iou_at W n k j
  rw [e, trip_at (at_ W k.val) k (at_ctr W k.val) (at_iota W k.val) n j, logic, later j.isLt k.isLt, decide_eq_true_iff]
  rw [show (Ideal.ofBits .f32 1060320051#32 < (at_ W k.val (Proc.devRef .tc main_v58_0) : FVec Ideal S2x3000x3000 .f32) (ix3 n k j))
      = S (box (W (Proc.devRef .tc main_v4)) n) k.val j.val from congrArg (Ideal.ofBits .f32 1060320051#32 < ·) hi]

/-- After the last trip exactly the entries that stay by the rule are marked. -/
theorem at_end (n : Fin 2) (j : Fin 3000) : bit (at_ W 3000) n j = 1#1 ↔ stays (S (box (W (Proc.devRef .tc main_v4)) n)) j.val := by
  have h := whole (S (box (W (Proc.devRef .tc main_v4)) n)) 3000 (fun k c => ∃ h : c < 3000, bit (at_ W k) n ⟨c, h⟩ = 1#1)
    (fun c hc => ⟨hc, by
      unfold bit
      exact congrFun (keep_at W) _⟩)
    (fun k hk c hc => by
      have := at_bit W n ⟨k, hk⟩ ⟨c, hc⟩
      constructor
      · rintro ⟨_, h⟩
        obtain ⟨h1, h2⟩ := this.mp h
        exact ⟨⟨hc, h1⟩, fun ⟨⟨⟨_, h3⟩, h4⟩, h5⟩ => h2 ⟨⟨h3, h4⟩, h5⟩⟩
      · rintro ⟨⟨_, h1⟩, h2⟩
        exact ⟨hc, this.mpr ⟨h1, fun ⟨⟨h3, h4⟩, h5⟩ => h2 ⟨⟨⟨hk, h3⟩, h4⟩, h5⟩⟩⟩)
    j.val j.isLt
  rw [← h]
  exact ⟨fun h => ⟨j.isLt, h⟩, fun ⟨_, h⟩ => h⟩

end Cert.NmsRefIdeal.Loop

end
-- ==== Proof.NmsData.lean ====
/-
  The suppression call's data over the extended reals: what the blocks read from the boxes, and what each grid point leaves in
  the result's block.
-/
module

public import proofs.«01_k».proof.Proof.NmsRefKeep
public import Idealize.ShloMosaic.Lib.Pipeline.ValueKit
public import Idealize.ShloMosaic.Lib.Pipeline.DatRel
public import Idealize.ShloMosaic.Lib.Pipeline.ArrRel
public import Idealize.ShloMosaic.Lib.Pointwise

@[expose] public section

set_option maxRecDepth 16384

noncomputable section

namespace Cert.NmsIdeal.Val

open Cert.NmsIdeal Cert.NmsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)
open Cert.NmsMath
open Cert.NmsRefIdeal.Loop (box)

local notation "𝕄" => MT nD τ sig Unit (Elt Ideal) ℕ (UR sig nD τ) ℕ

variable (m : (ℓ : Loc nD τ sig) → Buf (Elt Ideal) ℓ) (ρ : Dev nD → PrngReg)

/-- The buffers once the boxes are chosen. -/
def pre (c : Dev nD) : Valuation τ sig (Elt Ideal) := StableHlo.after (List.flatten [hostOps0, hostOps0_1, hostOps0_2, hostOps0_3]) (fun b => m (c, b))

/-- The chosen boxes. -/
def boxes (c : Dev nD) : FVec Ideal ⟨3, ![2, 3000, 4]⟩ .f32 := pre m c (Proc.devRef .tc main_v4)

theorem V0_eq (c : Dev nD) : V0 m c = StableHlo.after (List.flatten [hostOps0_4, hostOps0_5, hostOps0_6]) (pre m c) := by
  unfold pre V0
  rw [← StableHlo.after_append]
  simp only [List.flatten_cons, List.flatten_nil, List.append_nil, List.append_assoc]

section reads
variable (W : Valuation τ sig (Elt Ideal))

theorem zero_word : (FloatOps.sitofp (F := Ideal) .f32 (0#32 : BitVec 32) : EReal) = 0 := by
  show ((((0#32 : BitVec 32).toInt : ℝ)) : EReal) = 0
  simp

theorem cols_at (a : Fin 4) (n : Fin 2) (k : Fin 3072) :
    (show EReal from (StableHlo.after (List.flatten [hostOps0_4, hostOps0_5, hostOps0_6]) W (Proc.devRef .tc main_v7) : FVec Ideal S4x2x3072x1 .f32) (ix4 a n k 0))
      = box (W (Proc.devRef .tc main_v4)) n a k.val := by
  simp only [hostOps0_4, hostOps0_5, hostOps0_6, List.flatten_cons, List.flatten_nil, List.cons_append, List.nil_append, List.append_nil,
    StableHlo.TRef.nullary, StableHlo.TRef.unary, StableHlo.TRef.binary, StableHlo.TRef.ternary, StableHlo.TRef.toBuf, StableHlo.TRef.ofBuf, cast_eq]
  after_reads_simp
  pointwise [box]
  simp only [zero_word]

theorem rows_at (a : Fin 4) (n : Fin 2) (r : Fin 24) (l : Fin 128) :
    (show EReal from (StableHlo.after (List.flatten [hostOps0_4, hostOps0_5, hostOps0_6]) W (Proc.devRef .tc main_v8) : FVec Ideal S4x2x24x1x128 .f32) (ix5 a n r 0 l))
      = box (W (Proc.devRef .tc main_v4)) n a (128 * r.val + l.val) := by
  simp only [hostOps0_4, hostOps0_5, hostOps0_6, List.flatten_cons, List.flatten_nil, List.cons_append, List.nil_append, List.append_nil,
    StableHlo.TRef.nullary, StableHlo.TRef.unary, StableHlo.TRef.binary, StableHlo.TRef.ternary, StableHlo.TRef.toBuf, StableHlo.TRef.ofBuf, cast_eq]
  after_reads_simp
  pointwise [box]
  simp only [zero_word, Nat.mul_comm 128 r.val]

theorem same_boxes : StableHlo.after (List.flatten [hostOps0_4, hostOps0_5, hostOps0_6]) W (Proc.devRef .tc main_v4) = W (Proc.devRef .tc main_v4) := by
  simp only [hostOps0_4, hostOps0_5, hostOps0_6, List.flatten_cons, List.flatten_nil, List.cons_append, List.nil_append, List.append_nil,
    StableHlo.TRef.nullary, StableHlo.TRef.unary, StableHlo.TRef.binary, StableHlo.TRef.ternary, StableHlo.TRef.toBuf, StableHlo.TRef.ofBuf, cast_eq]
  after_reads_simp

end reads

/-- Every window's block index and both grid coordinates, at every grid point. -/
theorem idx : ∀ t : Fin cfg0.N, win0_0.index t = ![0, t.val / 24, 0, 0] ∧ win0_1.index t = ![0, t.val / 24, 0, 0, 0]
    ∧ win0_2.index t = ![t.val / 24, 0, 0, 0] ∧ t.val / 24 < 2 ∧ (grid0.coords t 1).val = t.val % 24 :=
  (by decide +kernel : ∀ t : Fin grid0.N, _)

/-- The image a grid point works on. -/
def img (t : Fin cfg0.N) : Fin 2 := ⟨t.val / 24, (idx t).2.2.2.1⟩

theorem read0 (c : Dev nD) (t : Fin cfg0.N) (a : Fin 4) (k : Fin 3072) :
    (iblk m c 0 t : FVec Ideal S4x1x3072x1 .f32) (ix4 a 0 k 0) = (V m c main_v7 : FVec Ideal S4x2x3072x1 .f32) (ix4 a (img t) k 0) := by
  blk_point [iblk, idx t, img]

theorem read1 (c : Dev nD) (t : Fin cfg0.N) (a : Fin 4) (r : Fin 24) (l : Fin 128) :
    (iblk m c 1 t : FVec Ideal S4x1x24x1x128 .f32) (ix5 a 0 r 0 l) = (V m c main_v8 : FVec Ideal S4x2x24x1x128 .f32) (ix5 a (img t) r 0 l) := by
  blk_point [iblk, idx t, img]

theorem place (t : Fin cfg0.N) (y : S1x24x1x128.Idx) :
    ((View.whole main_v9).slice (win0_2.rect t)).emb y = ix4 (img t) (y 1) 0 (y 3) := by
  blk_point [idx t, img]

theorem blk0 (c : Dev nD) (t : Fin cfg0.N) (a : Fin 4) (k : Fin 3072) :
    (iblk m c 0 t : FVec Ideal S4x1x3072x1 .f32) (ix4 a 0 k 0) = box (boxes m c) (img t) a k.val := by
  rw [read0]
  show (V0 m c (Proc.devRef .tc main_v7) : FVec Ideal S4x2x3072x1 .f32) _ = _
  rw [V0_eq]
  exact cols_at (pre m c) a (img t) k

theorem blk1 (c : Dev nD) (t : Fin cfg0.N) (a : Fin 4) (r : Fin 24) (l : Fin 128) :
    (iblk m c 1 t : FVec Ideal S4x1x24x1x128 .f32) (ix5 a 0 r 0 l) = box (boxes m c) (img t) a (128 * r.val + l.val) := by
  rw [read1]
  show (V0 m c (Proc.devRef .tc main_v8) : FVec Ideal S4x2x24x1x128 .f32) _ = _
  rw [V0_eq]
  exact rows_at (pre m c) a (img t) r l

/-- After a grid point the result's block is right as far as the point's row. -/
def Rl (c : Dev nD) : (w : Fin cfg0.W) → Fin cfg0.N → ((cfg0.win w).block.Idx → Elt Ideal (cfg0.win w).elt) → Prop := fun w t X =>
  match w, X with
  | ⟨2, _⟩, X => Right (box (boxes m c) (img t)) ((grid0.coords t 1).val + 1) X
  | _, _ => True

/-- The run's data: the inputs' blocks as they are, the result's right so far. -/
def rdat (c : Dev nD) : RDat τ (Elt Ideal) Unit ℕ (UR sig nD τ) ℕ cfg0 c := (Run.dats m 0 c).toRRel Run.unsaid (Rl m c)

/-- What a point finds in the result's block is right as far as its row. -/
theorem finds (c : Dev nD) (t : Fin cfg0.N) (Y) (h : (rdat m c).Finds 2 t Y) : Right (box (boxes m c) (img t)) (grid0.coords t 1).val Y := by
  have hN : t.val < 48 := t.isLt
  by_cases h0 : t.val % 24 = 0
  · intro j hj
    rw [(idx t).2.2.2.2, h0] at hj
    exact absurd hj (Nat.not_lt_zero _)
  · rcases ((rdat m c).finds_of_pos (w := 2) (t := t) rfl (by omega) Y).mp h with hf | hl
    · have := (flush0_2 _).mp hf
      dsimp only at this
      omega
    · have hr : Rl m c 2 _ Y := (Run.dats m 0 c).toRRel_leaves (w := 2) rfl hl
      have e1 : img ⟨t.val - 1, Nat.lt_of_le_of_lt (Nat.sub_le _ _) t.isLt⟩ = img t := Fin.ext (by show (t.val - 1) / 24 = t.val / 24; omega)
      have e2 : (grid0.coords (⟨t.val - 1, Nat.lt_of_le_of_lt (Nat.sub_le _ _) t.isLt⟩ : Fin cfg0.N) 1).val + 1 = (grid0.coords t 1).val := by
        rw [(idx _).2.2.2.2, (idx t).2.2.2.2]
        show (t.val - 1) % 24 + 1 = t.val % 24
        omega
      have hr' : Right (box (boxes m c) (img ⟨t.val - 1, Nat.lt_of_le_of_lt (Nat.sub_le _ _) t.isLt⟩))
        ((grid0.coords (⟨t.val - 1, Nat.lt_of_le_of_lt (Nat.sub_le _ _) t.isLt⟩ : Fin cfg0.N) 1).val + 1) Y := hr
      rw [e1, e2] at hr'
      exact hr'

/-- What the body finds at point `t`, and what it leaves. -/
def Pre (c : Dev nD) (t : Fin cfg0.N) : sProp 𝕄 :=
  iprop((Run.dats m 0 c).Φ t.castSucc ∗ (Run.dats m 0 c).owesAt () t.castSucc
    ∗ (∃ d, owns (c : Thread nD τ) (st0_0 t) fullShare ((Run.dats m 0 c).before 0 t d))
    ∗ (∃ d, owns (c : Thread nD τ) (st0_1 t) fullShare ((Run.dats m 0 c).before 1 t d))
    ∗ (∃ Y, ⌜(rdat m c).Finds 2 t Y⌝ ∗ owns (c : Thread nD τ) (st0_2 t) fullShare Y))
def Post (c : Dev nD) (t : Fin cfg0.N) : sProp 𝕄 :=
  iprop((Run.dats m 0 c).Φ t.succ ∗ (Run.dats m 0 c).owesAt () t.succ
    ∗ owns (c : Thread nD τ) (st0_0 t) fullShare ((Run.dats m 0 c).after 0 t)
    ∗ owns (c : Thread nD τ) (st0_1 t) fullShare ((Run.dats m 0 c).after 1 t)
    ∗ (∃ X, ⌜Rl m c 2 t X⌝ ∗ owns (c : Thread nD τ) (st0_2 t) fullShare X))

theorem point (c : Dev nD) (t : Fin cfg0.N) :
    Pre m c t ⊢ wp frame (wpE (defs₀ (F := Ideal)) Variants.none c none) Set.univ (bodyAt0 t) (fun _ => Post m c t) := by
  unfold Pre Post bodyAt0
  simp only [Run.before0, Run.before1]
  rw [show (Run.dats m 0 c).Φ t.succ = (Run.dats m 0 c).Φ t.castSucc from rfl,
    show (Run.dats m 0 c).owesAt () t.succ = (Run.dats m 0 c).owesAt () t.castSucc from rfl,
    show (Run.dats m 0 c).Φ t.castSucc = Pipeline.ΦA spec0 c from rfl, Run.kept, Run.after0, Run.after1]
  iintro ⟨⟨HS, Hg⟩, Ho, ⟨%d0, H0⟩, ⟨%d1, H1⟩, ⟨%d2, %hd, H2⟩⟩
  iapply (body c (grid0.coords t) _ _ _ _ _ _ _ _ (iblk m c 0 t) (iblk m c 1 t) d2 (box (boxes m c) (img t)) (blk0 m c t) (blk1 m c t) _)
  isplitl [H0]; · iexact H0
  isplitl [H1]; · iexact H1
  isplitl [H2]; · iexact H2
  isplitl [HS]; · iexact HS
  iintro ⟨H0, H1, ⟨%d', %hd', H2⟩, HS⟩
  isplitl [HS Hg]
  · isplitl [HS]; · iexact HS
    iexact Hg
  isplitl [Ho]; · iexact Ho
  isplitl [H0]; · iexact H0
  isplitl [H1]; · iexact H1
  iexists d'
  isplitr; · ipureintro; exact hd' (finds m c t d2 hd)
  iexact H2

theorem obligation (c : Dev nD) : BodyObligationRel (Run.dats m 0 c) (defs₀ (F := Ideal)) Variants.none () Set.univ Run.unsaid (Rl m c) := fun t => by
  rw [bigSep_W0, bigSep_W0, Run.row]
  exact triple_restated (point m c t) rfl .rfl fun _ => .rfl

/-- The call's result: one where an entry stays, zero elsewhere. -/
def G (b : FVec Ideal ⟨3, ![2, 3000, 4]⟩ .f32) : FVec Ideal S2x24x1x128 .f32 :=
  fun i => ind (stays (S (box b (i 0))) (128 * (i 1).val + (i 3).val))

theorem final (c : Dev nD) (A : (w : Fin cfg0.W) → Buf (Elt Ideal) ((cfg0.win w).arr.view.loc (c.tc : Thread nD τ)))
    (h : ∀ w, (rdat m c).ArrAt w cfg0.N (A w)) : A 2 = G (boxes m c) := by
  obtain ⟨after, hl, hA⟩ := RDat.ArrAt.exists_exact_all h
  rw [hA 2]
  refine ((rdat m c).withAfter after).arrAt_eq_of_covers 2 _ (by decide +kernel) fun t ht y => ?_
  have hr : Right (box (boxes m c) (img t)) ((grid0.coords t 1).val + 1) (after 2 t) := (Run.dats m 0 c).toRRel_leaves (w := 2) rfl (hl 2 t t.isLt ht)
  rw [(idx t).2.2.2.2, (flush0_2 t).mp ht] at hr
  blk_simp
  have e : (show S1x24x1x128.Idx from y) = ix4 0 (y 1) 0 (y 3) := by
    rw [eq_ix4 (show S1x24x1x128.Idx from y)]
    congr 1 <;> exact Subsingleton.elim _ _
  refine (congrArg (after 2 t) e).trans ((hr (y 1) (y 1).isLt (y 3)).trans ?_)
  exact (congrArg (G (boxes m c)) (place t y)).symm

end Cert.NmsIdeal.Val

end
-- ==== Proof.NmsLaunch.lean ====
/-
  A launch with host lines after the region whose arrays are known by a relation: the buffers outside the region end at what
  those lines compute from SOME contents the relation allows. The set-up follows the library's launch of relational data.
-/
module

public import Idealize.ShloMosaic.Lib.Pipeline.FrameSuffix
public import Idealize.ShloMosaic.Lib.Pipeline.Frame
public import Idealize.ShloMosaic.Lib.Tactic

@[expose] public section

noncomputable section

namespace Cert.NmsLaunch

open Idealize.ShloMosaic Idealize.ShloMosaic.Pipeline Idealize.ShloMosaic.Rounds Idealize.ShloMosaic.TcCoe
open Idealize.SL Idealize.SL.RA
open Idealize.SL.BI (sProp bigSep)
open scoped Idealize.SL.BI
open Idealize.SL.BI.BIBase Idealize.SL.BI.Laws Idealize.SL.Sem Idealize.SL.ProofMode

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (pcs : P → PCfg sig Λ₀ Val) (a : (p : P) → (pcs p).Adm) (p : P)
  (kit : PLaunchFacts₀ (nD := nD) (τ := τ) pcs p) (defs₀ : Defs nD τ sig Val Λ₀) (𝒱₀ : Variants)

/-- What the run ends with: on every core some contents of the arrays that the relation allows, and every other buffer at what
    the later lines compute from them. -/
def Ends (rdat : (c : Dev nD) → RDat τ Val Unit ℕ (UR sig nD τ) ℕ (pin pcs a p) c)
    (V₀ : Dev nD → Valuation τ sig Val) (opss : List (List (HloOp τ sig Val))) (c : Dev nD) (s : MemSt nD τ sig Val) : Prop :=
  ∃ A : (w : Fin (pin pcs a p).W) → Buf Val (((pin pcs a p).win w).arr.view.loc (c.tc : Thread nD τ)),
    (∀ w, (rdat c).ArrAt w (pin pcs a p).N (A w))
      ∧ ∀ b ∈ restRefsP sig (pcs p).pre (pin pcs a p).spec,
          s.mem ((c.tc : Thread nD τ).loc b) = StableHlo.after opss.flatten (withArrays (pin pcs a p).spec c (V₀ c) A) (Proc.devRef .tc b)

include kit in
set_option maxHeartbeats 2000000 in
theorem run (rdat : (c : Dev nD) → RDat τ Val Unit ℕ (UR sig nD τ) ℕ (pin pcs a p) c)
    (m : (ℓ : Loc nD τ sig) → Buf Val ℓ) (g : Dev nD → PrngReg)
    (main : Dev nD → Prog (TpuEff nD τ sig Val (Sig Λ₀ P fun p => (pcs p).Adm) .tc) PUnit)
    (hbody : ∀ c, (rdat c).BodyObligation defs₀ 𝒱₀ () Set.univ)
    (hq : ∀ c w, ((pin pcs a p).spec w).isOut = false → (rdat c).q w = shareOf (pin pcs a p).spec w) (howed : ∀ c t, (rdat c).owed t = 0)
    (V₀ : Dev nD → Valuation τ sig Val) (opss : List (List (HloOp τ sig Val)))
    (hsub : ∀ ops ∈ opss, ∀ op ∈ ops, op.bufs ⊆ tailRefs sig (pcs p).pre (pin pcs a p).spec)
    (hfresh : ∀ ops ∈ opss, ∀ op ∈ ops, op.fresh = ∅)
    (hkeep : ∀ ops ∈ opss, ∀ op ∈ ops, ∀ w, Proc.devRef .tc (arrRef (pin pcs a p).spec w) ∉ op.writes)
    (hmain : HMainPK (Ix := Unit) (Name := ℕ) (U := UR sig nD τ) (Lvl := ℕ) pcs p defs₀ 𝒱₀ m main
      (fun c b => V₀ c (Proc.devRef .tc b)) (fun _ => chain (opss.map StableHlo.seq)))
    (hA : ∀ c w, (rdat c).A w = V₀ c (Proc.devRef .tc (arrRef (pin pcs a p).spec w)))
    (hpf : ∀ c k, V₀ c (Proc.devRef .tc ((pcs p).pre.ref k)) = (a p).1 k)
    (hΦ : ∀ c, iprop(ΦA (pin pcs a p).spec c ∗ ΦT (pcs p).pre (a p).1 c) ⊢ (rdat c).Φ 0)
    (hΦ' : ∀ c, (rdat c).Φ (Fin.last (pin pcs a p).N) ⊢ ΦA (pin pcs a p).spec c) :
    θ_run (Pipeline.defs pcs defs₀) (onTc main) (s₀ m g) (fun r => (∀ c, Ends pcs a p rdat V₀ opss c r.2) ∧ r.2.sem = fun _ => 0) := by
  classical
  have hopen : ∀ c, ((RDat.familyOf pcs a p rdat p c).arraysAt (pin pcs a p).N : sProp 𝕄)
      ⊢ iprop(∃ A, ⌜∀ w, (rdat c).ArrAt w (pin pcs a p).N (A w)⌝ ∗ (rdat c).arrays A) := fun c => by
    rw [RDat.familyOf_self]; unfold RDat.arraysAt
    iintro H
    ihave H' := (BI.bigSep_exists_pi Finset.univ (fun w F => iprop(⌜(rdat c).ArrAt w (pin pcs a p).N F⌝
        ∗ (((pin pcs a p).win w).arr.view.loc (c.tc : Thread nD τ) ↦[((pin pcs a p).win w).arr.view.set]{(rdat c).share w} F)))) $$ H
    icases H' with ⟨%A, H⟩
    ihave H2 := (BI.bigSep_pure_sep Finset.univ (fun w => (rdat c).ArrAt w (pin pcs a p).N (A w))
        (fun w => ((pin pcs a p).win w).arr.view.loc (c.tc : Thread nD τ) ↦[((pin pcs a p).win w).arr.view.set]{(rdat c).share w} A w)) $$ H
    icases H2 with ⟨%h, H⟩
    iexists A; isplitr; · ipureintro; exact fun w => h w (Finset.mem_univ w)
    unfold RDat.arrays
    iexact H
  have hclose : ∀ c A, (∀ w, (rdat c).ArrAt w (pin pcs a p).N (A w)) →
      ((rdat c).arrays A : sProp 𝕄) ⊢ (RDat.familyOf pcs a p rdat p c).arraysAt (pin pcs a p).N := fun c A h => by
    rw [RDat.familyOf_self]; unfold RDat.arraysAt RDat.arrays
    refine BI.bigSep_mono fun w _ => ?_
    show (((pin pcs a p).win w).arr.view.loc (c.tc : Thread nD τ) ↦[((pin pcs a p).win w).arr.view.set]{(rdat c).share w} A w : sProp 𝕄)
      ⊢ iprop(∃ F, ⌜(rdat c).ArrAt w (pin pcs a p).N F⌝ ∗ (((pin pcs a p).win w).arr.view.loc (c.tc : Thread nD τ) ↦[((pin pcs a p).win w).arr.view.set]{(rdat c).share w} F))
    iintro H; iexists (A w); isplitr; · ipureintro; exact h w
    iexact H
  exact RDat.θ_run_region_pf_tail_quiescent pcs a (RDat.familyOf pcs a p rdat) () (kit.cellOf_inj a) p kit.win (OwnSemFacts.none (pin pcs a p).spec) kit.pre emb₁ defs₀ 𝒱₀ m g main
    (fun _ => chain (opss.map StableHlo.seq)) (fun c => by rw [RDat.familyOf_self]; exact hbody c)
    kit.block_pos kit.arr_whole kit.stage_whole (fun c t => by rw [RDat.familyOf_self]; exact howed c t)
    (G := fun _ => iprop(emp)) (u₀ := initOf (cells (pin pcs a) (kit.cellOf_inj a)) (launchToks (pin pcs a) (kit.cellOf_inj a)))
    (hu₀ := by
      iintro Hu; imodintro
      isplitl [Hu]; · iapply (show (ownU _ : sProp 𝕄) ⊢ BI.own (emb₁ (initOf (cells (pin pcs a) (kit.cellOf_inj a)) (launchToks (pin pcs a) (kit.cellOf_inj a)))) from .rfl); iexact Hu
      iapply (show (BI.emp : sProp 𝕄) ⊢ bigSep Finset.univ (fun _ : Dev nD => (BI.emp : sProp 𝕄)) from by rw [BI.bigSep_emp_const])
      iempintro)
    (V := fun c b => V₀ c (Proc.devRef .tc b)) (hmain := hmain)
    (hsplit := fun c => by rw [RDat.familyOf_self]; exact (rdat c).arrays_split_shared kit.sharedIn kit.arr_whole (hq c) (fun b => V₀ c (Proc.devRef .tc b)) _ (hA c))
    (hpf := hpf)
    (X := fun c => iprop(∃ r, prngReg c r)) (Y := fun c => iprop(∃ r, prngReg c r))
    (Z := fun c => unscopedRestP (Ix := Unit) (Name := ℕ) (U := UR sig nD τ) (Lvl := ℕ) (pcs p).pre (pin pcs a p).spec c (fun b => V₀ c (Proc.devRef .tc b)))
    (Z' := fun c => iprop(∃ G : (b : Ref sig .tc) → Buf Val ((c.tc : Thread nD τ).loc b),
      ⌜∃ A : (w : Fin (pin pcs a p).W) → Buf Val (((pin pcs a p).win w).arr.view.loc (c.tc : Thread nD τ)),
        (∀ w, (rdat c).ArrAt w (pin pcs a p).N (A w))
          ∧ ∀ b, G b = StableHlo.after opss.flatten (withArrays (pin pcs a p).spec c (V₀ c) A) (Proc.devRef .tc b)⌝
        ∗ unscopedRestP (Ix := Unit) (Name := ℕ) (U := UR sig nD τ) (Lvl := ℕ) (pcs p).pre (pin pcs a p).spec c G))
    (hX := fun c => by
      iintro ⟨HU, -, -, Hp, -⟩; imodintro
      isplitl [Hp]; · iexists _; iexact Hp
      iexact HU)
    (hin := fun c => by
      rw [RDat.familyOf_self]
      exact (show _ ⊢ iprop(ΦA (pin pcs a p).spec c ∗ ΦT (pcs p).pre (a p).1 c) by
        unfold ΦA ΦT; iintro ⟨Hp, Ht, Hr⟩
        isplitr [Ht]
        · isplitl [Hr] <;> iassumption
        · iexact Ht).trans (hΦ c))
    (hout := fun c => by
      rw [RDat.familyOf_self]
      exact (hΦ' c).trans (by
        rw [ownSems0_none]; unfold ΦA
        iintro ⟨Hr, Hp⟩
        isplitl [Hp]; · iexact Hp
        isplitr; · iempintro
        iexact Hr))
    (htail := fun c Q' => by
      iintro ⟨Hk, Hb, Ha, HZ⟩
      ihave Ha' := (hopen c) $$ Ha
      icases Ha' with ⟨%A, %h, Ha⟩
      have hB : (rdat c).arrays A = arrBufs (pin pcs a p).spec c (fun b => withArrays (pin pcs a p).spec c (V₀ c) A (Proc.devRef .tc b)) :=
        ((rdat c).arrBufs_eq_arrays kit.sharedIn kit.arr_whole (hq c) _ A fun w =>
          (withArrays_arr_shared (pin pcs a p).spec c (V₀ c) A ((rdat c).ArrAt_sharedIn kit.sharedIn (V₀ c) (hA c) (pin pcs a p).N A h) w).symm).symm
      iapply (tail_seqs_bufs_b pcs defs₀ 𝒱₀ (pcs p).pre (pin pcs a p).spec c (V₀ c) A opss hsub hfresh hkeep Q')
      isplitl [Hk]
      · iintro ⟨Hb2, Ha2, Hu⟩
        iapply Hk
        isplitl [Hb2]; · iexact Hb2
        isplitl [Ha2]; · iapply (hclose c A h); iapply (Entails.of_eq hB.symm); iexact Ha2
        iexists (fun b => StableHlo.after opss.flatten (withArrays (pin pcs a p).spec c (V₀ c) A) (Proc.devRef .tc b)); isplitr
        · ipureintro
          exact ⟨A, h, fun _ => rfl⟩
        · iexact Hu
      · isplitl [Hb]; · iexact Hb
        isplitl [Ha]; · iapply (Entails.of_eq hB); iexact Ha
        iexact HZ)
    (QY := fun c s => Ends pcs a p rdat V₀ opss c s)
    (hY := fun c s' => by
      iintro ⟨-, HZ, HSI⟩
      icases HZ with ⟨%G, %hG, HZ⟩
      unfold unscopedRestP
      ihave HZ' := (pointsTo_read_all (restRefsP sig (pcs p).pre (pin pcs a p).spec) (fun b => (c.tc : Thread nD τ).loc b) G s') $$ [HZ HSI]
      · isplitl [HZ] <;> iassumption
      icases HZ' with ⟨%hZ, HSI⟩
      imodintro
      isplitr
      · ipureintro
        obtain ⟨A, h, e⟩ := hG
        exact ⟨A, h, fun b hb => (hZ b hb).trans (e b)⟩
      · iexact HSI)
    (hQ := fun s h hz => ⟨fun c => (h c).2.2, hz⟩)

end Cert.NmsLaunch

end
-- ==== Proof.NmsAgree.lean ====
/-
  What the suppression's program and its reference do alike: choosing the boxes before the suppression, and putting the
  boxes that stay first after it.
-/
module

public import proofs.«01_k».proof.Proof.NmsBody
public import proofs.«01_k».proof.Proof.Gen.NmsRefIdeal.Run
public import Idealize.ShloMosaic.Lib.Pipeline.FrameSuffix
public import Idealize.ShloMosaic.Lib.Pipeline.Frame
public import Idealize.ShloMosaic.Lib.Pipeline.ValueKit
public import Idealize.ShloMosaic.Lib.Pointwise

@[expose] public section

set_option maxRecDepth 16384

noncomputable section

namespace Cert.NmsAgree

open Idealize.ShloMosaic Idealize.ShloMosaic.TcCoe Idealize.SL.Sem
open Idealize.ShloMosaic.StableHlo (after afterL)

/-- A place in the order: an entry that stays comes at its own place, one that does not comes after all of those. -/
def key (keep : IVec ⟨2, ![2, 3000]⟩ 1) : IVec ⟨2, ![2, 3000]⟩ 32 :=
  fun i => Scalar.select (keep i) (BitVec.ofNat 32 (i 1).val) (3000#32 + BitVec.ofNat 32 (i 1).val)

set_option maxHeartbeats 4000000 in
/-- The boxes to be suppressed are the same boxes. -/
theorem chosen (W : Valuation Cert.NmsIdeal.τ Cert.NmsIdeal.sig (Elt Ideal)) (W' : Valuation Cert.NmsRefIdeal.τ Cert.NmsRefIdeal.sig (Elt Ideal))
    (h0 : (W (Proc.devRef .tc Cert.NmsIdeal.main_arg0) : FVec Ideal ⟨3, ![2, 22500, 4]⟩ .f32) = W' (Proc.devRef .tc Cert.NmsRefIdeal.main_arg0))
    (h1 : (W (Proc.devRef .tc Cert.NmsIdeal.main_arg1) : FVec Ideal ⟨2, ![2, 22500]⟩ .f32) = W' (Proc.devRef .tc Cert.NmsRefIdeal.main_arg1)) :
    (after (List.flatten [Cert.NmsIdeal.Gen.hostOps0, Cert.NmsIdeal.Gen.hostOps0_1, Cert.NmsIdeal.Gen.hostOps0_2, Cert.NmsIdeal.Gen.hostOps0_3]) W
        (Proc.devRef .tc Cert.NmsIdeal.main_v4) : FVec Ideal ⟨3, ![2, 3000, 4]⟩ .f32)
      = after (List.flatten [Cert.NmsRefIdeal.Gen.hostOps0, Cert.NmsRefIdeal.Gen.hostOps0_1, Cert.NmsRefIdeal.Gen.hostOps0_2, Cert.NmsRefIdeal.Gen.hostOps0_3]) W'
        (Proc.devRef .tc Cert.NmsRefIdeal.main_v4) := by
  simp only [Cert.NmsIdeal.Gen.hostOps0, Cert.NmsIdeal.Gen.hostOps0_1, Cert.NmsIdeal.Gen.hostOps0_2, Cert.NmsIdeal.Gen.hostOps0_3,
    Cert.NmsRefIdeal.Gen.hostOps0, Cert.NmsRefIdeal.Gen.hostOps0_1, Cert.NmsRefIdeal.Gen.hostOps0_2, Cert.NmsRefIdeal.Gen.hostOps0_3,
    List.flatten_cons, List.flatten_nil, List.cons_append, List.nil_append, List.append_nil]
  after_reads_simp
  rw [h0, h1]
  rfl

set_option maxHeartbeats 4000000 in
/-- The same boxes put by the same places give the same results. -/
theorem ordered (W : Valuation Cert.NmsIdeal.τ Cert.NmsIdeal.sig (Elt Ideal)) (W' : Valuation Cert.NmsRefIdeal.τ Cert.NmsRefIdeal.sig (Elt Ideal))
    (h0 : (W (Proc.devRef .tc Cert.NmsIdeal.main_v4) : FVec Ideal ⟨3, ![2, 3000, 4]⟩ .f32) = W' (Proc.devRef .tc Cert.NmsRefIdeal.main_v4))
    (h1 : (W (Proc.devRef .tc Cert.NmsIdeal.main_v19) : IVec ⟨2, ![2, 3000]⟩ 32) = W' (Proc.devRef .tc Cert.NmsRefIdeal.main_v62)) :
    (after (List.flatten [Cert.NmsIdeal.Gen.hostOps1_2, Cert.NmsIdeal.Gen.hostOps1_3, Cert.NmsIdeal.Gen.hostOps1_4, Cert.NmsIdeal.Gen.hostOps1_5]) W
        (Proc.devRef .tc Cert.NmsIdeal.main_v24) : FVec Ideal ⟨2, ![1200, 4]⟩ .f32)
      = after (List.flatten [Cert.NmsRefIdeal.Gen.hostOps0_7, Cert.NmsRefIdeal.Gen.hostOps0_8, Cert.NmsRefIdeal.Gen.hostOps0_9, Cert.NmsRefIdeal.Gen.hostOps0_10]) W'
        (Proc.devRef .tc Cert.NmsRefIdeal.main_v67) := by
  simp only [Cert.NmsIdeal.Gen.hostOps1_2, Cert.NmsIdeal.Gen.hostOps1_3, Cert.NmsIdeal.Gen.hostOps1_4, Cert.NmsIdeal.Gen.hostOps1_5,
    Cert.NmsRefIdeal.Gen.hostOps0_7, Cert.NmsRefIdeal.Gen.hostOps0_8, Cert.NmsRefIdeal.Gen.hostOps0_9, Cert.NmsRefIdeal.Gen.hostOps0_10,
    List.flatten_cons, List.flatten_nil, List.cons_append, List.nil_append, List.append_nil]
  after_reads_simp
  rw [h0, h1]
  rfl

set_option maxHeartbeats 4000000 in
/-- The kernel's places, from what its call leaves. -/
theorem places (W : Valuation Cert.NmsIdeal.τ Cert.NmsIdeal.sig (Elt Ideal)) (keep : IVec ⟨2, ![2, 3000]⟩ 1)
    (h : ∀ (n : Fin 2) (k : Fin 3000), keep (ix2 n k) = BitVec.ofBool (decide (Ideal.ofBits .f32 0x3F000000#32
      < (W (Proc.devRef .tc Cert.NmsIdeal.main_v9) : FVec Ideal ⟨4, ![2, 24, 1, 128]⟩ .f32)
          (ix4 n ⟨k.val / 128, by omega⟩ 0 ⟨k.val % 128, by omega⟩)))) :
    (after (List.flatten [Cert.NmsIdeal.Gen.hostOps1, Cert.NmsIdeal.Gen.hostOps1_1]) W
        (Proc.devRef .tc Cert.NmsIdeal.main_v19) : IVec ⟨2, ![2, 3000]⟩ 32) = key keep := by
  funext i
  rw [eq_ix2 i]
  simp only [Cert.NmsIdeal.Gen.hostOps1, Cert.NmsIdeal.Gen.hostOps1_1,
    List.flatten_cons, List.flatten_nil, List.cons_append, List.nil_append, List.append_nil,
    StableHlo.TRef.nullary, StableHlo.TRef.unary, StableHlo.TRef.binary, StableHlo.TRef.ternary, StableHlo.TRef.toBuf, StableHlo.TRef.ofBuf, cast_eq]
  after_reads_simp
  pointwise [key]
  have hi : keep i = _ := (congrArg keep (eq_ix2 i)).trans (h (i 0) (i 1))
  rw [hi]
  split
  · rename_i hc
    rw [decide_eq_true hc]
    rfl
  · rename_i hc
    rw [decide_eq_false hc]
    rfl

set_option maxHeartbeats 4000000 in
/-- The reference's places. -/
theorem places_ref (W : Valuation Cert.NmsRefIdeal.τ Cert.NmsRefIdeal.sig (Elt Ideal)) :
    (after (List.flatten [Cert.NmsRefIdeal.Gen.hostOps0_5, Cert.NmsRefIdeal.Gen.hostOps0_6]) W
        (Proc.devRef .tc Cert.NmsRefIdeal.main_v62) : IVec ⟨2, ![2, 3000]⟩ 32) = key (W (Proc.devRef .tc Cert.NmsRefIdeal.main_v58_4)) := by
  funext i
  rw [eq_ix2 i]
  simp only [Cert.NmsRefIdeal.Gen.hostOps0_5, Cert.NmsRefIdeal.Gen.hostOps0_6,
    List.flatten_cons, List.flatten_nil, List.cons_append, List.nil_append, List.append_nil,
    StableHlo.TRef.nullary, StableHlo.TRef.unary, StableHlo.TRef.binary, StableHlo.TRef.ternary, StableHlo.TRef.toBuf, StableHlo.TRef.ofBuf, cast_eq]
  after_reads_simp
  pointwise [key]
  rfl

end Cert.NmsAgree

end
-- ==== Proof.NmsEnd.lean ====
/-
  What the suppression's kernel ends with: the boxes ordered by the keys of the entries that stay, the arguments as they were.
-/
module

public import proofs.«01_k».proof.Proof.NmsData
public import proofs.«01_k».proof.Proof.NmsLaunch
public import proofs.«01_k».proof.Proof.NmsAgree

@[expose] public section

set_option maxRecDepth 16384

noncomputable section

namespace Cert.NmsIdeal.Val

open Cert.NmsIdeal Cert.NmsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel withArrays)
open Idealize.ShloMosaic.StableHlo (after)

variable (m : (ℓ : Loc nD τ sig) → Buf (Elt Ideal) ℓ) (ρ : Dev nD → PrngReg)

set_option backward.isDefEq.respectTransparency.types false in
set_option maxHeartbeats 1600000 in
theorem run : θ_run defs (onTc (τ := τ) (main (F := Ideal))) ⟨m, fun _ => 0, ρ⟩ (fun r =>
    (∀ c, Cert.NmsLaunch.Ends (fun q => (cfgs q).toPCfg (Val := Elt Ideal)) (fun q => (cfgs q).toPCfg_adm) (0 : Fin 1) (rdat m) (V0 m) Run.tail c r.2)
      ∧ r.2.sem = fun _ => 0) :=
  Cert.NmsLaunch.run (fun q => (cfgs q).toPCfg (Val := Elt Ideal)) (fun q => (cfgs q).toPCfg_adm) (0 : Fin 1) launch0.toP.to₀ defs₀ Variants.none
    (rdat m) m ρ main (hbody := fun c => (obligation m c).toRRel)
    (hq := fun c w hw => (rdat m c).q_eq_shareOf_of_share_full launch0.win.arr_inj ((Run.dats m 0 c).share_full fun _ => rfl) w hw)
    (howed := fun _ _ => rfl) (V₀ := V0 m) (opss := Run.tail) (hsub := sfx_sub) (hfresh := sfx_fresh) (hkeep := sfx_keeps)
    (hmain := hmain m Variants.none) (hA := Run.A_eq m) (hpf := fun _ k => k.elim0)
    (hΦ := fun c => (show iprop(Pipeline.ΦA spec0 c ∗ _) ⊢ Pipeline.ΦA spec0 c from by iintro ⟨H, -⟩; iexact H)) (hΦ' := fun _ => .rfl)

/-- The buffers when the call is over. -/
def exit (c : Dev nD) (A : (w : Fin cfg0.W) → Buf (Elt Ideal) ((cfg0.win w).arr.view.loc (c.tc : Thread nD τ))) : Valuation τ sig (Elt Ideal) :=
  withArrays spec0 c (V0 m c) A

theorem exit_box (c : Dev nD) (A) : exit m c A (Proc.devRef .tc main_v4) = boxes m c := by
  unfold exit
  rw [Pipeline.withArrays_of_ne spec0 c (V0 m c) A main_v4 (by decide), V0_eq, same_boxes]
  rfl

theorem exit_out (c : Dev nD) (A) : exit m c A (Proc.devRef .tc main_v9) = A 2 :=
  Pipeline.withArrays_arr spec0 winFacts0.arr_inj c (V0 m c) A 2

theorem split (W : Valuation τ sig (Elt Ideal)) : after (List.flatten Run.tail) W
    = after (List.flatten [hostOps1_2, hostOps1_3, hostOps1_4, hostOps1_5]) (after (List.flatten [hostOps1, hostOps1_1]) W) := by
  simp only [Run.tail, List.flatten_cons, List.flatten_nil, List.append_nil, StableHlo.after_append]

theorem key_box (W : Valuation τ sig (Elt Ideal)) : after (List.flatten [hostOps1, hostOps1_1]) W (Proc.devRef .tc main_v4) = W (Proc.devRef .tc main_v4) := by
  simp only [hostOps1, hostOps1_1, List.flatten_cons, List.flatten_nil, List.cons_append, List.nil_append, List.append_nil,
    StableHlo.TRef.nullary, StableHlo.TRef.unary, StableHlo.TRef.binary, StableHlo.TRef.ternary, StableHlo.TRef.toBuf, StableHlo.TRef.ofBuf, cast_eq]
  after_reads_simp

/-- An argument ends as it was. -/
theorem arg (c : Dev nD) (A) (b : Ref sig .tc) (hb : b = main_arg0 ∨ b = main_arg1) (hw : ∀ w, Pipeline.arrRef spec0 w ≠ b) :
    after (List.flatten Run.tail) (exit m c A) (Proc.devRef .tc b) = V m c b := by
  rw [StableHlo.after_of_forall_not_mem _ _ fun op hop => ?_]
  · exact Pipeline.withArrays_of_ne spec0 c (V0 m c) A b hw
  · obtain ⟨ops, hops, hop'⟩ := List.mem_flatten.mp hop
    exact Run.spares b hb ops hops op hop'

/-- The run with what it ends with: some contents of the call's result as its rule allows, and everything else from them. -/
theorem ran : θ_run defs (onTc (τ := τ) (main (F := Ideal))) ⟨m, fun _ => 0, ρ⟩ (fun r => ∀ c : Dev nD,
    (∃ A, (∀ w, (rdat m c).ArrAt w cfg0.N (A w))
      ∧ r.2.mem ((c.tc : Thread nD τ).loc main_v24) = after (List.flatten Run.tail) (exit m c A) (Proc.devRef .tc main_v24))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run m ρ)
  obtain ⟨A, hA, hv⟩ := h.1 c
  have mem : ∀ b : Ref sig .tc, b ∈ Pipeline.restRefs sig spec0 → b ∈ Pipeline.restRefsP sig (Pipeline.Prefetch.none) spec0 := fun b hb =>
    Finset.mem_sdiff.mpr ⟨hb, fun h => (Finset.mem_image.mp h).elim fun k _ => k.elim0⟩
  have get : ∀ b : Ref sig .tc, b ∈ Pipeline.restRefs sig spec0 →
      r.2.mem ((c.tc : Thread nD τ).loc b) = after (List.flatten Run.tail) (exit m c A) (Proc.devRef .tc b) := fun b hb => hv b (mem b hb)
  exact ⟨⟨A, hA, get main_v24 (Pipeline.mem_restRefs_of main_v24 (by decide) (by decide))⟩,
    (get main_arg0 (Pipeline.mem_restRefs_of main_arg0 (by decide) (by decide))).trans ((arg m c A main_arg0 (.inl rfl) (by decide)).trans (V_main_arg0 m c)),
    (get main_arg1 (Pipeline.mem_restRefs_of main_arg1 (by decide) (by decide))).trans ((arg m c A main_arg1 (.inr rfl) (by decide)).trans (V_main_arg1 m c))⟩

end Cert.NmsIdeal.Val

end
-- ==== Proof.NmsRefEnd.lean ====
/-
  What the suppression's reference ends with: the boxes ordered by the keys of the entries that stay, the arguments as they were.
-/
module

public import proofs.«01_k».proof.Proof.NmsAgree
public import proofs.«01_k».proof.Proof.NmsRefKeep
public import Idealize.ShloMosaic.Lib.IdealHost

@[expose] public section

set_option maxRecDepth 16384

noncomputable section

namespace Cert.NmsRefIdeal.Loop

open Idealize.ShloMosaic Idealize.ShloMosaic.TcCoe Idealize.SL.Sem
open Idealize.ShloMosaic.StableHlo (after afterL)
open Idealize.ShloMosaic.StableHlo
open Cert.NmsRefIdeal Cert.NmsRefIdeal.Gen Cert.NmsRefIdeal.Value
open Cert.NmsIdeal.Val (S)
open Cert.NmsMath (stays ind ind_true ind_false)

open Classical in
/-- Which of the boxes stay. -/
def keepOf (b : FVec Ideal ⟨3, ![2, 3000, 4]⟩ .f32) : IVec ⟨2, ![2, 3000]⟩ 1 :=
  fun i => BitVec.ofBool (decide (stays (S (box b (i 0))) (i 1).val))

theorem half : Ideal.ofBits .f32 0x3F000000#32 = (((1 : ℝ) / 2 : ℝ) : EReal) := by
  simp [Ideal.ofBits, Ideal.ieee, -EReal.coe_mul]; norm_num

theorem half_lt (p : Prop) : Ideal.ofBits .f32 0x3F000000#32 < ind p ↔ p := by
  rw [half]
  by_cases h : p
  · rw [ind_true h]
    refine ⟨fun _ => h, fun _ => ?_⟩
    rw [show (1 : EReal) = ((1 : ℝ) : EReal) by norm_cast]
    exact EReal.coe_lt_coe_iff.mpr (by norm_num)
  · rw [ind_false h]
    refine ⟨fun hh => absurd hh (not_lt.mpr ?_), fun hh => absurd hh h⟩
    exact EReal.coe_nonneg.mpr (by norm_num)

variable (m : (ℓ : Loc nD τ sig) → Buf (Elt Ideal) ℓ) (c : Dev nD)

/-- The buffers once the boxes are chosen. -/
def first : Valuation τ sig (Elt Ideal) := after (List.flatten [hostOps0, hostOps0_1, hostOps0_2, hostOps0_3]) (launchContents m c)

theorem entry : entryContents preI m c = after hostOps0_4 (first m c) := by
  unfold first
  simp only [preI, entryContents, afterL_cons, afterL_nil, List.flatten_cons, List.flatten_nil, List.append_nil, StableHlo.after_append]

theorem unwritten (b : Ref sig .tc) (hb : b ∉ while0Ops0_W) (hc : b ∉ condOps_W) : ∀ k, atK m k c (Proc.devRef .tc b) = entryContents preI m c (Proc.devRef .tc b)
  | 0 => rfl
  | k + 1 => by
    rw [show atK m (k + 1) c = after while0Ops0 (after condOps (atK m k c)) from rfl, after_of_writes_sub while0Ops0 _ while0Ops0_writes hb,
      after_of_writes_sub condOps _ condOps_writes hc, unwritten b hb hc k]

/-- The buffers when the loop is over. -/
def exit : Valuation τ sig (Elt Ideal) := after condOps (atK m 3000 c)

theorem exit_box : exit m c (Proc.devRef .tc main_v4) = first m c (Proc.devRef .tc main_v4) := by
  unfold exit
  rw [after_of_writes_sub condOps _ condOps_writes (by decide +kernel), unwritten m c main_v4 (by decide +kernel) (by decide +kernel), entry, box_at]

theorem exit_bits : (exit m c (Proc.devRef .tc main_v58_4) : IVec ⟨2, ![2, 3000]⟩ 1) = keepOf (first m c (Proc.devRef .tc main_v4)) := by
  classical
  have e : exit m c (Proc.devRef .tc main_v58_4) = at_ (first m c) 3000 (Proc.devRef .tc main_v58_4) := by
    unfold exit at_
    rw [cond_keeps (atK m 3000 c) main_v58_4 (by decide), atK_agree m c 3000 main_v58_4 (by decide), entry]
  rw [e]
  funext i
  have h := at_end (first m c) (i 0) (i 1)
  have hb : (at_ (first m c) 3000 (Proc.devRef .tc main_v58_4) : IVec ⟨2, ![2, 3000]⟩ 1) i = bit (at_ (first m c) 3000) (i 0) (i 1) :=
    congrArg (at_ (first m c) 3000 (Proc.devRef .tc main_v58_4) : IVec ⟨2, ![2, 3000]⟩ 1) (eq_ix2 i)
  refine hb.trans ?_
  unfold keepOf
  by_cases hs : stays (S (box (first m c (Proc.devRef .tc main_v4)) (i 0))) (i 1).val
  · rw [decide_eq_true hs, h.mpr hs]; rfl
  · rw [decide_eq_false hs]
    exact (by decide : ∀ x : BitVec 1, x ≠ 1#1 → x = BitVec.ofBool false) _ fun hh => hs (h.mp hh)

theorem final_eq : finalContents condOps preI bodyI postI 3000 m c
    = after (List.flatten [hostOps0_7, hostOps0_8, hostOps0_9, hostOps0_10]) (after (List.flatten [hostOps0_5, hostOps0_6]) (exit m c)) := by
  unfold exit
  simp only [finalContents, postI, afterL_cons, afterL_nil, List.flatten_cons, List.flatten_nil, List.append_nil, StableHlo.after_append]

theorem key_box : after (List.flatten [hostOps0_5, hostOps0_6]) (exit m c) (Proc.devRef .tc main_v4) = first m c (Proc.devRef .tc main_v4) := by
  rw [← exit_box]
  simp only [hostOps0_5, hostOps0_6, List.flatten_cons, List.flatten_nil, List.cons_append, List.nil_append, List.append_nil,
    StableHlo.TRef.nullary, StableHlo.TRef.unary, StableHlo.TRef.binary, StableHlo.TRef.ternary, StableHlo.TRef.toBuf, StableHlo.TRef.ofBuf, cast_eq]
  after_reads_simp

theorem key_ref : (after (List.flatten [hostOps0_5, hostOps0_6]) (exit m c) (Proc.devRef .tc main_v62) : IVec ⟨2, ![2, 3000]⟩ 32)
    = Cert.NmsAgree.key (keepOf (first m c (Proc.devRef .tc main_v4))) := by
  rw [Cert.NmsAgree.places_ref, exit_bits]

theorem post_arg0 (V : Valuation τ sig (Elt Ideal)) : afterL postI V (Proc.devRef .tc main_arg0) = V (Proc.devRef .tc main_arg0) := by
  simp only [postI, afterL_cons, afterL_nil, hostOps0_5, hostOps0_6, hostOps0_7, hostOps0_8, hostOps0_9, hostOps0_10,
    StableHlo.TRef.nullary, StableHlo.TRef.unary, StableHlo.TRef.binary, StableHlo.TRef.ternary, StableHlo.TRef.toBuf, StableHlo.TRef.ofBuf, cast_eq]
  after_reads_simp

theorem post_arg1 (V : Valuation τ sig (Elt Ideal)) : afterL postI V (Proc.devRef .tc main_arg1) = V (Proc.devRef .tc main_arg1) := by
  simp only [postI, afterL_cons, afterL_nil, hostOps0_5, hostOps0_6, hostOps0_7, hostOps0_8, hostOps0_9, hostOps0_10,
    StableHlo.TRef.nullary, StableHlo.TRef.unary, StableHlo.TRef.binary, StableHlo.TRef.ternary, StableHlo.TRef.toBuf, StableHlo.TRef.ofBuf, cast_eq]
  after_reads_simp

/-- What nothing writes ends as it was. -/
theorem argument (b : Ref sig .tc) (hp : ∀ V : Valuation τ sig (Elt Ideal), afterL postI V (Proc.devRef .tc b) = V (Proc.devRef .tc b))
    (hb : b ∉ while0Ops0_W) (hc : b ∉ condOps_W)
    (h : ∀ L ∈ [hostOps0_W, hostOps0_1_W, hostOps0_2_W, hostOps0_3_W, hostOps0_4_W], b ∉ L) :
    finalContents condOps preI bodyI postI 3000 m c (Proc.devRef .tc b) = m ((c.tc : Thread nD τ).loc b) := by
  simp only [List.forall_mem_cons] at h
  obtain ⟨h0, h1, h2, h3, h4, -⟩ := h
  refine (hp _).trans ?_
  rw [after_of_writes_sub condOps _ condOps_writes hc]
  refine (unwritten m c b hb hc 3000).trans ?_
  simp only [entryContents, preI, afterL_cons, afterL_nil]
  rw [after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- The reference's run. -/
theorem ran (ρ : Dev nD → PrngReg) : θ_run defs (onTc (τ := τ) (main (F := Ideal))) ⟨m, fun _ => 0, ρ⟩ (fun r => ∀ c : Dev nD,
    r.2.mem ((c.tc : Thread nD τ).loc main_v67) = finalContents condOps preI bodyI postI 3000 m c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨h c main_v67 rfl,
    (h c main_arg0 rfl).trans (argument m c main_arg0 post_arg0 (by decide +kernel) (by decide +kernel) (by decide +kernel)),
    (h c main_arg1 rfl).trans (argument m c main_arg1 post_arg1 (by decide +kernel) (by decide +kernel) (by decide +kernel))⟩) (run_fold m ρ)

end Cert.NmsRefIdeal.Loop

end
-- ==== Proof.NmsSame.lean ====
/-
  The suppression's kernel and its reference end with the same boxes.
-/
module

public import proofs.«01_k».proof.Proof.NmsEnd
public import proofs.«01_k».proof.Proof.NmsRefEnd

@[expose] public section

set_option maxRecDepth 16384

noncomputable section

namespace Cert.NmsSame

open Idealize.ShloMosaic Idealize.ShloMosaic.TcCoe Idealize.SL.Sem
open Idealize.ShloMosaic.StableHlo (after finalContents)
open Cert.NmsIdeal.Val (S)
open Cert.NmsRefIdeal.Loop (keepOf half_lt)

variable (m : (ℓ : Loc Cert.NmsIdeal.nD Cert.NmsIdeal.τ Cert.NmsIdeal.sig) → Buf (Elt Ideal) ℓ)
    (m' : (ℓ : Loc Cert.NmsRefIdeal.nD Cert.NmsRefIdeal.τ Cert.NmsRefIdeal.sig) → Buf (Elt Ideal) ℓ) (c : Dev Cert.NmsIdeal.nD)

theorem key_kernel (A : (w : Fin Cert.NmsIdeal.cfg0.W) → Buf (Elt Ideal) ((Cert.NmsIdeal.cfg0.win w).arr.view.loc (c.tc : Thread Cert.NmsIdeal.nD Cert.NmsIdeal.τ)))
    (h : ∀ w, (Cert.NmsIdeal.Val.rdat m c).ArrAt w Cert.NmsIdeal.cfg0.N (A w)) :
    (after (List.flatten [Cert.NmsIdeal.Gen.hostOps1, Cert.NmsIdeal.Gen.hostOps1_1]) (Cert.NmsIdeal.Val.exit m c A) (Proc.devRef .tc Cert.NmsIdeal.main_v19)
      : IVec ⟨2, ![2, 3000]⟩ 32) = Cert.NmsAgree.key (keepOf (Cert.NmsIdeal.Val.boxes m c)) := by
  classical
  refine Cert.NmsAgree.places _ _ fun n k => ?_
  rw [Cert.NmsIdeal.Val.exit_out, Cert.NmsIdeal.Val.final m c A h]
  unfold keepOf
  refine congrArg BitVec.ofBool (decide_eq_decide.mpr ?_)
  refine Iff.trans ?_ (half_lt _).symm
  show Cert.NmsMath.stays _ k.val ↔ Cert.NmsMath.stays _ (128 * (k.val / 128) + k.val % 128)
  rw [Nat.div_add_mod]
  exact Iff.rfl

theorem same (h0 : m' ((c.tc : Thread Cert.NmsRefIdeal.nD Cert.NmsRefIdeal.τ).loc Cert.NmsRefIdeal.main_arg0)
      = m ((c.tc : Thread Cert.NmsIdeal.nD Cert.NmsIdeal.τ).loc Cert.NmsIdeal.main_arg0))
    (h1 : m' ((c.tc : Thread Cert.NmsRefIdeal.nD Cert.NmsRefIdeal.τ).loc Cert.NmsRefIdeal.main_arg1)
      = m ((c.tc : Thread Cert.NmsIdeal.nD Cert.NmsIdeal.τ).loc Cert.NmsIdeal.main_arg1))
    (A : (w : Fin Cert.NmsIdeal.cfg0.W) → Buf (Elt Ideal) ((Cert.NmsIdeal.cfg0.win w).arr.view.loc (c.tc : Thread Cert.NmsIdeal.nD Cert.NmsIdeal.τ)))
    (h : ∀ w, (Cert.NmsIdeal.Val.rdat m c).ArrAt w Cert.NmsIdeal.cfg0.N (A w)) :
    (after (List.flatten Cert.NmsIdeal.Run.tail) (Cert.NmsIdeal.Val.exit m c A) (Proc.devRef .tc Cert.NmsIdeal.main_v24) : FVec Ideal ⟨2, ![1200, 4]⟩ .f32)
      = finalContents Cert.NmsRefIdeal.Value.condOps Cert.NmsRefIdeal.Value.preI Cert.NmsRefIdeal.Value.bodyI Cert.NmsRefIdeal.Value.postI 3000 m' c
          (Proc.devRef .tc Cert.NmsRefIdeal.main_v67) := by
  have hb : Cert.NmsIdeal.Val.boxes m c = (Cert.NmsRefIdeal.Loop.first m' c (Proc.devRef .tc Cert.NmsRefIdeal.main_v4) : FVec Ideal ⟨3, ![2, 3000, 4]⟩ .f32) :=
    Cert.NmsAgree.chosen (fun b => m (c, b)) (StableHlo.launchContents m' c) h0.symm h1.symm
  rw [Cert.NmsIdeal.Val.split, Cert.NmsRefIdeal.Loop.final_eq]
  refine Cert.NmsAgree.ordered _ _ ?_ ?_
  · exact (Cert.NmsIdeal.Val.key_box _).trans ((Cert.NmsIdeal.Val.exit_box m c A).trans (hb.trans (Cert.NmsRefIdeal.Loop.key_box m' c).symm))
  · refine (key_kernel m c A h).trans (Eq.trans ?_ (Cert.NmsRefIdeal.Loop.key_ref m' c).symm)
    rw [hb]

end Cert.NmsSame

end
-- ==== Proof.ConvValue.lean ====
/-
  What the kernel's pallas_call leaves in its result, index by index, over the arrays the call is given.
-/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Conv

open Idealize.ShloMosaic Idealize.ShloMosaic.TcCoe Idealize.SL.Sem
open Idealize.ShloMosaic.Pipeline (Dat)
open Cert.KernelIdeal Cert.KernelIdeal.Gen

/-- One tap of the 3x3 convolution: the row `q` of the copy of the image shifted by `d` columns, times the tap's
    512 by 512 weight matrix. -/
def tap (X : FVec Ideal S3x2x3072x512 .f32) (W : FVec Ideal S9x512x512 .bf16) (d : Fin 3) (k : Fin 9) (n : Fin 2) (q : Fin 3072)
    (o : Fin 512) : EReal :=
  ∑ c : Fin 512, X (ix4 d n q c) * W (ix3 k c o)

/-- The convolution at row `p` and output channel `o`, before the bias: nine taps in the order of the rows of the
    3x3 window, then its columns, added from zero. -/
def conv (X : FVec Ideal S3x2x3072x512 .f32) (W : FVec Ideal S9x512x512 .bf16) (n : Fin 2) (p : Fin 2912) (o : Fin 512) : EReal :=
  0 + tap X W 0 0 n ⟨p.val, by omega⟩ o + tap X W 1 1 n ⟨p.val, by omega⟩ o + tap X W 2 2 n ⟨p.val, by omega⟩ o
    + tap X W 0 3 n ⟨p.val + 56, by omega⟩ o + tap X W 1 4 n ⟨p.val + 56, by omega⟩ o + tap X W 2 5 n ⟨p.val + 56, by omega⟩ o
    + tap X W 0 6 n ⟨p.val + 112, by omega⟩ o + tap X W 1 7 n ⟨p.val + 112, by omega⟩ o + tap X W 2 8 n ⟨p.val + 112, by omega⟩ o

/-- The call's result: the convolution, its bias and the clamp at zero, times the head weights, plus the head's bias. -/
def G (X : FVec Ideal S3x2x3072x512 .f32) (W : FVec Ideal S9x512x512 .bf16) (B : FVec Ideal S1x512 .f32)
    (H : FVec Ideal S512x64 .bf16) (E : FVec Ideal S1x64 .f32) : FVec Ideal S2x2912x64 .f32 := fun i =>
  (∑ k : Fin 512, max (conv X W (i 0) (i 1) k + B (ix2 0 k)) 0 * H (ix2 k (i 2))) + E (ix2 0 (i 2))

variable (m : (ℓ : Loc nD τ sig) → Buf (Elt Ideal) ℓ)

/-- Every window's block index, at every grid point. -/
theorem idx : ∀ t : Fin cfg0.N, win0_0.index t = ![0, t.val / 14, 0, 0] ∧ win0_1.index t = ![0, 0, 0] ∧ win0_2.index t = ![0, 0]
    ∧ win0_3.index t = ![0, 0] ∧ win0_4.index t = ![0, 0] ∧ win0_5.index t = ![t.val / 14, t.val % 14, 0]
    ∧ (grid0.coords t 1).val = t.val % 14 ∧ t.val / 14 < 2 :=
  (by decide +kernel : ∀ t : Fin grid0.N, _)

theorem z2 : (![0, 0] : Fin 2 → ℕ) = fun _ => 0 := by funext a; fin_cases a <;> rfl
theorem z3 : (![0, 0, 0] : Fin 3 → ℕ) = fun _ => 0 := by funext a; fin_cases a <;> rfl

/-- The first row each load starts at, for each tile. -/
theorem row : ∀ r : Fin 14,
    BitVec.toNat (Scalar.indexCast (Scalar.addi (Scalar.muli (BitVec.ofNat 32 r.val) 208#32) 0#32)) = r.val * 208
    ∧ BitVec.toNat (Scalar.indexCast (Scalar.addi (Scalar.muli (BitVec.ofNat 32 r.val) 208#32) 56#32)) = r.val * 208 + 56
    ∧ BitVec.toNat (Scalar.indexCast (Scalar.addi (Scalar.muli (BitVec.ofNat 32 r.val) 208#32) 112#32)) = r.val * 208 + 112 := by
  decide +kernel

/-- What the body leaves in the result's block at a grid point: the stored vector, read at an index. -/
theorem point (c : Dev nD) (t : Fin cfg0.N) (y : S1x208x64.Idx) : outsAt0 m c t y
    = G (V m c main_v10) (V m c main_v13) (V m c main_v24) (V m c main_v20) (V m c main_v23)
      (((View.whole main_v25).slice (win0_5.rect t)).emb y) := by
  unfold outsAt0 out0_A_5
  rw [View.read_writes_eq_canon _ _ _ (cover0_A_5 c _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, z2, z3, View.ld_unit_zero]
  rw [View.canon_unit_zero]
  pointwise [k0_pay1, k0_pay2, k0_pay3, k0_pay4, k0_pay5, k0_pay6, G, conv, tap]
  blk_point [iblk, idx t]
  all_goals first
    | exact z3
    | (have h := row ⟨t.val % 14, Nat.mod_lt _ (by decide)⟩
       dsimp only at h
       omega)

/-- The result array after the run. -/
theorem final (c : Dev nD) : (dats m 0 c).arrAt 5 (cfgs 0).N
    = G (V m c main_v10) (V m c main_v13) (V m c main_v24) (V m c main_v20) (V m c main_v23) := by
  refine (dats m 0 c).arrAt_eq_of_covers 5 _ (by decide +kernel) fun t _ y => ?_
  blk_simp
  rw [after0_5]
  exact point m c t y

end Cert.KernelIdeal.Conv

end
-- ==== Proof.ConvMath.lean ====
/-
  The 3x3 convolution, its clamp at zero and the two 1x1 heads, written index by index over the argument arrays: what
  both programs are compared with.
-/
module

public import Idealize.ShloMosaic.Lib.Pointwise

@[expose] public section

set_option maxRecDepth 16384

noncomputable section

namespace Cert.ConvMath

open Idealize.ShloMosaic

/-- The image with a border of one row and one column on every side (zeros), read at row `r`, column `s` of the
    bordered image and channel `k`. -/
def padded (x : FVec Ideal ⟨4, ![2, 512, 50, 50]⟩ .f32) (n : Fin 2) (r s : ℕ) (k : Fin 512) : EReal :=
  if h : (1 ≤ r ∧ r - 1 < 50) ∧ 1 ≤ s ∧ s - 1 < 50 then x (ix4 n k ⟨r - 1, h.1.2⟩ ⟨s - 1, h.2.2⟩)
  else FloatOps.sitofp (F := Ideal) .f32 (0#32)

/-- One tap of the convolution at pixel `(r, s)`: the bordered image `d` rows down and `e` columns right, times the
    weights of that tap, summed over the channels. -/
def tap (x : FVec Ideal ⟨4, ![2, 512, 50, 50]⟩ .f32) (w : FVec Ideal ⟨4, ![512, 512, 3, 3]⟩ .f32) (n : Fin 2) (r s : ℕ)
    (o : Fin 512) (d e : Fin 3) : EReal :=
  ∑ k : Fin 512, padded x n (d.val + r) (e.val + s) k * w (ix4 o k d e)

/-- The convolution without its bias. -/
def conv (x : FVec Ideal ⟨4, ![2, 512, 50, 50]⟩ .f32) (w : FVec Ideal ⟨4, ![512, 512, 3, 3]⟩ .f32) (n : Fin 2) (r s : ℕ)
    (o : Fin 512) : EReal :=
  0 + tap x w n r s o 0 0 + tap x w n r s o 0 1 + tap x w n r s o 0 2 + tap x w n r s o 1 0 + tap x w n r s o 1 1
    + tap x w n r s o 1 2 + tap x w n r s o 2 0 + tap x w n r s o 2 1 + tap x w n r s o 2 2

/-- The hidden layer: convolution, bias, clamp at zero. -/
def hid (x : FVec Ideal ⟨4, ![2, 512, 50, 50]⟩ .f32) (w : FVec Ideal ⟨4, ![512, 512, 3, 3]⟩ .f32)
    (b : FVec Ideal ⟨1, ![512]⟩ .f32) (n : Fin 2) (r s : ℕ) (o : Fin 512) : EReal :=
  max (conv x w n r s o + b (ix1 o)) 0

/-- The box offsets: the 36-channel head, pixel by pixel and anchor by anchor. -/
def locV (x : FVec Ideal ⟨4, ![2, 512, 50, 50]⟩ .f32) (w : FVec Ideal ⟨4, ![512, 512, 3, 3]⟩ .f32)
    (b : FVec Ideal ⟨1, ![512]⟩ .f32) (h : FVec Ideal ⟨4, ![36, 512, 1, 1]⟩ .f32) (e : FVec Ideal ⟨1, ![36]⟩ .f32)
    (n : Fin 2) (q : Fin 22500) (k : Fin 4) : EReal :=
  (∑ o : Fin 512, hid x w b n (q.val / 450) (q.val / 9 % 50) o * h (ix4 ⟨q.val % 9 * 4 + k.val, by omega⟩ o 0 0))
    + e (ix1 ⟨q.val % 9 * 4 + k.val, by omega⟩)

/-- The two scores: the 18-channel head, pixel by pixel and anchor by anchor. -/
def scoreV (x : FVec Ideal ⟨4, ![2, 512, 50, 50]⟩ .f32) (w : FVec Ideal ⟨4, ![512, 512, 3, 3]⟩ .f32)
    (b : FVec Ideal ⟨1, ![512]⟩ .f32) (h : FVec Ideal ⟨4, ![18, 512, 1, 1]⟩ .f32) (e : FVec Ideal ⟨1, ![18]⟩ .f32)
    (n : Fin 2) (q : Fin 22500) (k : Fin 2) : EReal :=
  (∑ o : Fin 512, hid x w b n (q.val / 450) (q.val / 9 % 50) o * h (ix4 ⟨q.val % 9 * 2 + k.val, by omega⟩ o 0 0))
    + e (ix1 ⟨q.val % 9 * 2 + k.val, by omega⟩)

end Cert.ConvMath

end
-- ==== Proof.ConvRead.lean ====
/-
  The arrays the kernel's pallas_call is given, read index by index from the arguments; its result through the host
  operations after the call; the two results of the kernel.
-/
module

public import proofs.«01_k».proof.Proof.ConvValue
public import proofs.«01_k».proof.Proof.ConvMath
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.KernelIdeal.Conv

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The three copies of the bordered and flattened image: copy `d` starts `d` columns later. -/
theorem readX (c : Dev nD) (d : Fin 3) (n : Fin 2) (q : Fin 3072) (k : Fin 512) (hq : d.val + q.val < 2912) :
    (show EReal from (V m c main_v10 : FVec Ideal S3x2x3072x512 .f32) (ix4 d n q k))
      = ConvMath.padded (m ((c : Thread nD τ).loc main_arg0)) n ((d.val + q.val) / 56) ((d.val + q.val) % 56) k := by
  show StableHlo.after _ _ _ _ = _
  simp only [hostOps0, hostOps0_1, hostOps0_2, hostOps0_3, hostOps0_4, hostOps0_5, hostOps0_6, hostOps0_7, hostOps0_8, List.flatten_cons, List.flatten_nil, List.cons_append, List.nil_append, List.append_nil, StableHlo.TRef.binary, StableHlo.TRef.unary, StableHlo.TRef.toBuf, StableHlo.TRef.ofBuf, cast_eq]
  after_reads_simp
  pointwise
  after_reads_simp
  pointwise
  unfold ConvMath.padded
  fin_vals d with hd <;> simp only [hd, Nat.reduceSub, Nat.reduceLT, ↓reduceDIte, Nat.zero_add] at hq ⊢ <;> rw [dif_pos hq] <;> rfl

/-- The nine weight matrices. -/
theorem readW (c : Dev nD) (d : Fin 9) (k o : Fin 512) :
    (show EReal from (V m c main_v13 : FVec Ideal S9x512x512 .bf16) (ix3 d k o))
      = (m ((c : Thread nD τ).loc main_arg1) : FVec Ideal S512x512x3x3 .f32) (ix4 o k ⟨d.val / 3, by omega⟩ ⟨d.val % 3, by omega⟩) := by
  show StableHlo.after _ _ _ _ = _
  simp only [hostOps0, hostOps0_1, hostOps0_2, hostOps0_3, hostOps0_4, hostOps0_5, hostOps0_6, hostOps0_7, hostOps0_8, List.flatten_cons, List.flatten_nil, List.cons_append, List.nil_append, List.append_nil, StableHlo.TRef.binary, StableHlo.TRef.unary, StableHlo.TRef.toBuf, StableHlo.TRef.ofBuf, cast_eq]
  after_reads_simp
  pointwise

/-- The convolution's bias. -/
theorem readB (c : Dev nD) (k : Fin 512) : (show EReal from (V m c main_v24 : FVec Ideal S1x512 .f32) (ix2 0 k))
    = (m ((c : Thread nD τ).loc main_arg2) : FVec Ideal S512 .f32) (ix1 k) := by
  show StableHlo.after _ _ _ _ = _
  simp only [hostOps0, hostOps0_1, hostOps0_2, hostOps0_3, hostOps0_4, hostOps0_5, hostOps0_6, hostOps0_7, hostOps0_8, List.flatten_cons, List.flatten_nil, List.cons_append, List.nil_append, List.append_nil, StableHlo.TRef.binary, StableHlo.TRef.unary, StableHlo.TRef.toBuf, StableHlo.TRef.ofBuf, cast_eq]
  after_reads_simp
  pointwise

/-- The two heads' weights, side by side. -/
theorem readH (c : Dev nD) (k : Fin 512) (l : Fin 64) (hl : l.val < 54) :
    (show EReal from (V m c main_v20 : FVec Ideal S512x64 .bf16) (ix2 k l))
      = if h : l.val < 36 then (m ((c : Thread nD τ).loc main_arg5) : FVec Ideal S36x512x1x1 .f32) (ix4 ⟨l.val, h⟩ k 0 0)
        else (m ((c : Thread nD τ).loc main_arg3) : FVec Ideal S18x512x1x1 .f32) (ix4 ⟨l.val - 36, by omega⟩ k 0 0) := by
  show StableHlo.after _ _ _ _ = _
  simp only [hostOps0, hostOps0_1, hostOps0_2, hostOps0_3, hostOps0_4, hostOps0_5, hostOps0_6, hostOps0_7, hostOps0_8, List.flatten_cons, List.flatten_nil, List.cons_append, List.nil_append, List.append_nil, StableHlo.TRef.binary, StableHlo.TRef.unary, StableHlo.TRef.toBuf, StableHlo.TRef.ofBuf, cast_eq]
  after_reads_simp
  pointwise
  after_reads_simp
  pointwise
  rw [dif_pos hl]

/-- The two heads' biases, side by side. -/
theorem readE (c : Dev nD) (l : Fin 64) (hl : l.val < 54) :
    (show EReal from (V m c main_v23 : FVec Ideal S1x64 .f32) (ix2 0 l))
      = if h : l.val < 36 then (m ((c : Thread nD τ).loc main_arg6) : FVec Ideal S36 .f32) (ix1 ⟨l.val, h⟩)
        else (m ((c : Thread nD τ).loc main_arg4) : FVec Ideal S18 .f32) (ix1 ⟨l.val - 36, by omega⟩) := by
  show StableHlo.after _ _ _ _ = _
  simp only [hostOps0, hostOps0_1, hostOps0_2, hostOps0_3, hostOps0_4, hostOps0_5, hostOps0_6, hostOps0_7, hostOps0_8, List.flatten_cons, List.flatten_nil, List.cons_append, List.nil_append, List.append_nil, StableHlo.TRef.binary, StableHlo.TRef.unary, StableHlo.TRef.toBuf, StableHlo.TRef.ofBuf, cast_eq]
  after_reads_simp
  pointwise
  after_reads_simp
  pointwise
  rw [dif_pos hl]

/-- The convolution of the call, at a pixel of the image. -/
theorem conv_at (c : Dev nD) (n : Fin 2) (r s : ℕ) (hr : r < 50) (hs : s < 50) (o : Fin 512) :
    conv (V m c main_v10) (V m c main_v13) n ⟨r * 56 + s, by omega⟩ o
      = ConvMath.conv (m ((c : Thread nD τ).loc main_arg0)) (m ((c : Thread nD τ).loc main_arg1)) n r s o := by
  have key : ∀ (d e : Fin 3) (h1 : e.val * 3 + d.val < 9) (h2 : r * 56 + s + e.val * 56 < 3072),
      tap (V m c main_v10) (V m c main_v13) d ⟨e.val * 3 + d.val, h1⟩ n ⟨r * 56 + s + e.val * 56, h2⟩ o
        = ConvMath.tap (m ((c : Thread nD τ).loc main_arg0)) (m ((c : Thread nD τ).loc main_arg1)) n r s o e d := by
    intro d e h1 h2
    unfold tap ConvMath.tap
    refine Finset.sum_congr rfl fun k _ => Ideal.mul_congr ?_ ?_
    · refine (readX m c d n _ k (by show d.val + (r * 56 + s + e.val * 56) < 2912; omega)).trans ?_
      congr 1
      · show (d.val + (r * 56 + s + e.val * 56)) / 56 = e.val + r; omega
      · show (d.val + (r * 56 + s + e.val * 56)) % 56 = d.val + s; omega
    · refine (readW m c _ k o).trans ?_
      congr 2
      · apply Fin.ext; show (e.val * 3 + d.val) / 3 = e.val; omega
      · apply Fin.ext; show (e.val * 3 + d.val) % 3 = d.val; omega
  have h0 := key 0 0 (by decide) (by show r * 56 + s + 0 * 56 < 3072; omega)
  have h1 := key 1 0 (by decide) (by show r * 56 + s + 0 * 56 < 3072; omega)
  have h2 := key 2 0 (by decide) (by show r * 56 + s + 0 * 56 < 3072; omega)
  have h3 := key 0 1 (by decide) (by show r * 56 + s + 1 * 56 < 3072; omega)
  have h4 := key 1 1 (by decide) (by show r * 56 + s + 1 * 56 < 3072; omega)
  have h5 := key 2 1 (by decide) (by show r * 56 + s + 1 * 56 < 3072; omega)
  have h6 := key 0 2 (by decide) (by show r * 56 + s + 2 * 56 < 3072; omega)
  have h7 := key 1 2 (by decide) (by show r * 56 + s + 2 * 56 < 3072; omega)
  have h8 := key 2 2 (by decide) (by show r * 56 + s + 2 * 56 < 3072; omega)
  unfold conv ConvMath.conv
  rw [← h0, ← h1, ← h2, ← h3, ← h4, ← h5, ← h6, ← h7, ← h8]
  rfl

/-- The call's result at a pixel of the image and one of the 54 channels in use. -/
theorem G_at (c : Dev nD) (n : Fin 2) (r s : ℕ) (hr : r < 50) (hs : s < 50) (l : Fin 64) (hl : l.val < 54) :
    G (V m c main_v10) (V m c main_v13) (V m c main_v24) (V m c main_v20) (V m c main_v23) (ix3 n ⟨r * 56 + s, by omega⟩ l)
      = (∑ o : Fin 512, ConvMath.hid (m ((c : Thread nD τ).loc main_arg0)) (m ((c : Thread nD τ).loc main_arg1))
            (m ((c : Thread nD τ).loc main_arg2)) n r s o
          * (if h : l.val < 36 then (m ((c : Thread nD τ).loc main_arg5) : FVec Ideal S36x512x1x1 .f32) (ix4 ⟨l.val, h⟩ o 0 0)
        else (m ((c : Thread nD τ).loc main_arg3) : FVec Ideal S18x512x1x1 .f32) (ix4 ⟨l.val - 36, by omega⟩ o 0 0) : EReal))
        + (if h : l.val < 36 then (m ((c : Thread nD τ).loc main_arg6) : FVec Ideal S36 .f32) (ix1 ⟨l.val, h⟩)
        else (m ((c : Thread nD τ).loc main_arg4) : FVec Ideal S18 .f32) (ix1 ⟨l.val - 36, by omega⟩) : EReal) := by
  unfold G ConvMath.hid
  refine Ideal.add_congr (Finset.sum_congr rfl fun o _ => Ideal.mul_congr ?_ (readH m c o l hl)) (readE m c l hl)
  refine congrArg₂ max (Ideal.add_congr (conv_at m c n r s hr hs o) (readB m c o)) rfl

end Cert.KernelIdeal.Conv

end
-- ==== Proof.ConvTail.lean ====
/-
  The kernel's two results: the host operations after the call, then the call's result, read index by index.
-/
module

public import proofs.«01_k».proof.Proof.ConvRead
public import proofs.«01_k».proof.Proof.ConvMath
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.KernelIdeal.Conv

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The call's result as the operations after it find it. -/
theorem exit25 (c : Dev nD) :
    Pipeline.withArrays (cfgs 0).spec c (V0 m c) (fun w => (dats m 0 c).arrAt w (cfgs 0).N) (Proc.tc.devRef main_v25)
      = G (V m c main_v10) (V m c main_v13) (V m c main_v24) (V m c main_v20) (V m c main_v23) :=
  (Pipeline.withArrays_arr spec0 winFacts0.arr_inj c _ _ 5).trans (final m c)

/-- The first result is the first 36 channels of the call's result, at the image's own pixels. -/
theorem after29 (U : Valuation τ sig (Elt Ideal)) (n : Fin 2) (q : Fin 22500) (k : Fin 4) :
    (show EReal from (StableHlo.after hostOps1 U (Proc.devRef .tc main_v29) : FVec Ideal S2x22500x4 .f32) (ix3 n q k))
      = (U (Proc.devRef .tc main_v25) : FVec Ideal S2x2912x64 .f32)
          (ix3 n ⟨q.val / 450 * 56 + q.val / 9 % 50, by omega⟩ ⟨q.val % 9 * 4 + k.val, by omega⟩) := by
  after_reads_simp
  pointwise

/-- The second result is the next 18 channels. -/
theorem after31 (U : Valuation τ sig (Elt Ideal)) (n : Fin 2) (q : Fin 22500) (k : Fin 2) :
    (show EReal from (StableHlo.after hostOps1 U (Proc.devRef .tc main_v31) : FVec Ideal S2x22500x2 .f32) (ix3 n q k))
      = (U (Proc.devRef .tc main_v25) : FVec Ideal S2x2912x64 .f32)
          (ix3 n ⟨q.val / 450 * 56 + q.val / 9 % 50, by omega⟩ ⟨36 + (q.val % 9 * 2 + k.val), by omega⟩) := by
  after_reads_simp
  pointwise

/-- The box offsets, from the call's result. -/
theorem G_loc (c : Dev nD) (n : Fin 2) (q : Fin 22500) (k : Fin 4) :
    G (V m c main_v10) (V m c main_v13) (V m c main_v24) (V m c main_v20) (V m c main_v23)
          (ix3 n ⟨q.val / 450 * 56 + q.val / 9 % 50, by omega⟩ ⟨q.val % 9 * 4 + k.val, by omega⟩)
      = ConvMath.locV (m ((c : Thread nD τ).loc main_arg0)) (m ((c : Thread nD τ).loc main_arg1)) (m ((c : Thread nD τ).loc main_arg2))
          (m ((c : Thread nD τ).loc main_arg5)) (m ((c : Thread nD τ).loc main_arg6)) n q k := by
  have h : q.val % 9 * 4 + k.val < 36 := by omega
  refine (G_at m c n (q.val / 450) (q.val / 9 % 50) (by omega) (by omega) ⟨q.val % 9 * 4 + k.val, by omega⟩ (by show q.val % 9 * 4 + k.val < 54; omega)).trans ?_
  rw [dif_pos h]
  simp only [dif_pos h]
  rfl

/-- The class scores, from the call's result. -/
theorem G_score (c : Dev nD) (n : Fin 2) (q : Fin 22500) (k : Fin 2) :
    G (V m c main_v10) (V m c main_v13) (V m c main_v24) (V m c main_v20) (V m c main_v23)
          (ix3 n ⟨q.val / 450 * 56 + q.val / 9 % 50, by omega⟩ ⟨36 + (q.val % 9 * 2 + k.val), by omega⟩)
      = ConvMath.scoreV (m ((c : Thread nD τ).loc main_arg0)) (m ((c : Thread nD τ).loc main_arg1)) (m ((c : Thread nD τ).loc main_arg2))
          (m ((c : Thread nD τ).loc main_arg3)) (m ((c : Thread nD τ).loc main_arg4)) n q k := by
  have h : ¬ 36 + (q.val % 9 * 2 + k.val) < 36 := by omega
  have h' : 36 + (q.val % 9 * 2 + k.val) - 36 = q.val % 9 * 2 + k.val := by omega
  refine (G_at m c n (q.val / 450) (q.val / 9 % 50) (by omega) (by omega) ⟨36 + (q.val % 9 * 2 + k.val), by omega⟩ (by show 36 + (q.val % 9 * 2 + k.val) < 54; omega)).trans ?_
  rw [dif_neg h]
  simp only [dif_neg h, h']
  rfl

theorem tail0 (c : Dev nD) (n : Fin 2) (q : Fin 22500) (k : Fin 4) :
    (show EReal from (Pipeline.afterTail₀ cfgs (dats m) 0 (V0 m) [hostOps1] c main_v29 : FVec Ideal S2x22500x4 .f32) (ix3 n q k))
      = ConvMath.locV (m ((c : Thread nD τ).loc main_arg0)) (m ((c : Thread nD τ).loc main_arg1)) (m ((c : Thread nD τ).loc main_arg2))
          (m ((c : Thread nD τ).loc main_arg5)) (m ((c : Thread nD τ).loc main_arg6)) n q k := by
  unfold Pipeline.afterTail₀
  simp only [List.flatten_cons, List.flatten_nil, List.append_nil]
  exact (after29 _ n q k).trans ((congrFun (exit25 m c) _).trans (G_loc m c n q k))

theorem tail1 (c : Dev nD) (n : Fin 2) (q : Fin 22500) (k : Fin 2) :
    (show EReal from (Pipeline.afterTail₀ cfgs (dats m) 0 (V0 m) [hostOps1] c main_v31 : FVec Ideal S2x22500x2 .f32) (ix3 n q k))
      = ConvMath.scoreV (m ((c : Thread nD τ).loc main_arg0)) (m ((c : Thread nD τ).loc main_arg1)) (m ((c : Thread nD τ).loc main_arg2))
          (m ((c : Thread nD τ).loc main_arg3)) (m ((c : Thread nD τ).loc main_arg4)) n q k := by
  unfold Pipeline.afterTail₀
  simp only [List.flatten_cons, List.flatten_nil, List.append_nil]
  exact (after31 _ n q k).trans ((congrFun (exit25 m c) _).trans (G_score m c n q k))

/-- The third result: each of the 1200 places holds its image's number. -/
theorem after34 (U : Valuation τ sig (Elt Ideal)) (i : Fin 1200) :
    (show EReal from (StableHlo.after hostOps1 U (Proc.devRef .tc main_v34) : FVec Ideal S1200 .f32) (ix1 i))
      = if i.val < 600 then 0 else 1 := by
  after_reads_simp
  pointwise
  by_cases h : i.val < 600
  · rw [if_pos h, show i.val / 600 = 0 by omega]
    show (((BitVec.ofNat 32 0).toInt : ℝ) : EReal) = 0
    simp
  · rw [if_neg h, show i.val / 600 = 1 by omega]
    show (((BitVec.ofNat 32 1).toInt : ℝ) : EReal) = 1
    simp

theorem tail2 (c : Dev nD) (i : Fin 1200) :
    (show EReal from (Pipeline.afterTail₀ cfgs (dats m) 0 (V0 m) [hostOps1] c main_v34 : FVec Ideal S1200 .f32) (ix1 i)) = if i.val < 600 then 0 else 1 := by
  unfold Pipeline.afterTail₀
  simp only [List.flatten_cons, List.flatten_nil, List.append_nil]
  exact after34 _ i

end Cert.KernelIdeal.Conv

end
-- ==== Proof.ConvRef.lean ====
/-
  The reference's two head tensors, read index by index.
-/
module

public import proofs.«01_k».proof.Proof.Gen.ReferenceIdeal.Read
public import proofs.«01_k».proof.Proof.ConvMath

@[expose] public section

set_option maxRecDepth 16384

noncomputable section

namespace Cert.ReferenceIdeal.Conv

open Idealize.ShloMosaic Idealize.ShloMosaic.TcCoe Idealize.SL.Sem
open Cert.ReferenceIdeal Cert.ReferenceIdeal.Gen Cert.ReferenceIdeal.Value Cert.ReferenceIdeal.Read
open Cert.ConvMath

/-- The bordered image. -/
theorem pad_at (x : FVec Ideal S2x512x50x50 .f32) (n : Fin 2) (k : Fin 512) (r s : Fin 52) :
    val_main_v0 (F := Ideal) x (ix4 n k r s) = padded x n r.val s.val k := by
  unfold val_main_v0 padded
  pointwise [val_main_call0_v0, val_main_c]

/-- The hidden layer of the reference. -/
theorem hid_at (x : FVec Ideal S2x512x50x50 .f32) (w : FVec Ideal S512x512x3x3 .f32) (b : FVec Ideal S512 .f32) (n : Fin 2) (r s : Fin 50) (o : Fin 512) :
    val_main_v51 (F := Ideal) x w b (ix4 n r s o) = hid x w b n r.val s.val o := by
  unfold val_main_v51
  pointwise [val_main_v50, val_main_cst_0, val_main_v49, val_main_v46, val_main_v41, val_main_v36, val_main_v31, val_main_v26, val_main_v21, val_main_v16, val_main_v11, val_main_v6, val_main_v5, val_main_cst, val_main_v4, val_main_v10, val_main_v15, val_main_v20, val_main_v25, val_main_v30, val_main_v35, val_main_v40, val_main_v45, val_main_v1, val_main_v7, val_main_v12, val_main_v17, val_main_v22, val_main_v27, val_main_v32, val_main_v37, val_main_v42, val_main_v2, val_main_v3, val_main_v8, val_main_v9, val_main_v13, val_main_v14, val_main_v18, val_main_v19, val_main_v23, val_main_v24, val_main_v28, val_main_v29, val_main_v33, val_main_v34, val_main_v38, val_main_v39, val_main_v43, val_main_v44, val_main_v47, val_main_v48, hid, conv, tap, pad_at]

/-- The reference's box offsets. -/
theorem loc_at (x : FVec Ideal S2x512x50x50 .f32) (w : FVec Ideal S512x512x3x3 .f32) (b : FVec Ideal S512 .f32)
    (h : FVec Ideal S36x512x1x1 .f32) (e : FVec Ideal S36 .f32) (n : Fin 2) (q : Fin 22500) (k : Fin 4) :
    val_main_v57 (F := Ideal) x w b h e (ix3 n q k) = locV x w b h e n q k := by
  pointwise [val_main_v57, val_main_v56, val_main_v55, val_main_v54, val_main_v53, val_main_v52, hid_at, locV]

/-- The reference's scores. -/
theorem score_at (x : FVec Ideal S2x512x50x50 .f32) (w : FVec Ideal S512x512x3x3 .f32) (b : FVec Ideal S512 .f32)
    (h : FVec Ideal S18x512x1x1 .f32) (e : FVec Ideal S18 .f32) (n : Fin 2) (q : Fin 22500) (k : Fin 2) :
    val_main_v63 (F := Ideal) x w b h e (ix3 n q k) = scoreV x w b h e n q k := by
  pointwise [val_main_v63, val_main_v62, val_main_v61, val_main_v60, val_main_v59, val_main_v58, hid_at, scoreV]

/-- The third result: each of the 1200 places holds its image's number. -/
theorem inds_at (i : Fin 1200) : (show EReal from val_main_v70 (F := Ideal) (ix1 i)) = if i.val < 600 then 0 else 1 := by
  pointwise [val_main_v70, val_main_v69, val_main_v68, val_main_v67, val_main_v66, val_main_v65, val_main_v64, val_main_cst_4, val_main_cst_3, val_main_cst_2, val_main_cst_1]
  rfl

end Cert.ReferenceIdeal.Conv

end
-- ==== Proof.BoxMath.lean ====
/-
  The box transform's scalar formulas over the extended reals, as both the kernel and the reference compute them.
-/
module

public import Idealize.ShloMosaic.Lib.Pointwise

@[expose] public section

noncomputable section

namespace Cert.BoxMath

open Idealize.ShloMosaic

/-- The low side of a box along one axis: centre less half the length, kept within the image. -/
def lo (d q s c img : EReal) : EReal := min img (max 0 (d * s + c - Ideal.ofBits FTy.f32 1056964608#32 * (Ideal.exp q * s)))

/-- The high side of a box along one axis. -/
def hi (d q s c img : EReal) : EReal := min img (max 0 (d * s + c + Ideal.ofBits FTy.f32 1056964608#32 * (Ideal.exp q * s)))

/-- The second of two scores' softmax. -/
def fg (s0 s1 : EReal) : EReal :=
  Ideal.div (Ideal.exp (s1 - max s0 s1)) (Ideal.exp (s0 - max s0 s1) + Ideal.exp (s1 - max s0 s1))

/-- A box's score: minus infinity unless both its sides reach sixteen. -/
def score (x1 y1 x2 y2 f : EReal) : EReal :=
  Scalar.select (IntOp.andi (BitVec.ofBool (decide (Ideal.ofBits FTy.f32 1098907648#32 ≤ x2 - x1)))
    (BitVec.ofBool (decide (Ideal.ofBits FTy.f32 1098907648#32 ≤ y2 - y1)))) f (Ideal.ofBits FTy.f32 4286578688#32)

end Cert.BoxMath

end
-- ==== Proof.BoxesValue.lean ====
/-
  What the box call leaves in its result, index by index, over the arrays the call is given.
-/
module

public import proofs.«01_k».proof.Proof.Gen.BoxesIdeal.Frame
public import proofs.«01_k».proof.Proof.BoxMath
public import Idealize.ShloMosaic.Lib.Pipeline.ValueKit
public import Idealize.ShloMosaic.Lib.Pointwise

@[expose] public section

set_option maxRecDepth 16384

noncomputable section

namespace Cert.BoxesIdeal.Box

open Idealize.ShloMosaic Idealize.ShloMosaic.TcCoe Idealize.SL.Sem
open Idealize.ShloMosaic.Pipeline (Dat)
open Cert.BoxesIdeal Cert.BoxesIdeal.Gen

variable (m : (ℓ : Loc nD τ sig) → Buf (Elt Ideal) ℓ)

/-- Every window's block index, at every grid point. -/
theorem idx : ∀ t : Fin cfg0.N, win0_0.index t = ![t.val, 0, 0, 0] ∧ win0_1.index t = ![0, 0, 0] ∧ win0_2.index t = ![0, 0]
    ∧ win0_3.index t = ![t.val, 0, 0, 0] ∧ t.val < 2 :=
  (by decide +kernel : ∀ t : Fin grid0.N, _)

/-- The call's result at one place, from the box's four offsets and two scores `e`, its width, height and centre `a` and
    the image's sides `i`: the four sides of a box, then its score. -/
def Gat (e : Fin 6 → EReal) (a : Fin 4 → EReal) (i : Fin 2 → EReal) : ℕ → EReal
  | 0 => BoxMath.lo (e 0) (e 2) (a 0) (a 2) (i 1)
  | 1 => BoxMath.lo (e 1) (e 3) (a 1) (a 3) (i 0)
  | 2 => BoxMath.hi (e 0) (e 2) (a 0) (a 2) (i 1)
  | 3 => BoxMath.hi (e 1) (e 3) (a 1) (a 3) (i 0)
  | _ => BoxMath.score (BoxMath.lo (e 0) (e 2) (a 0) (a 2) (i 1)) (BoxMath.lo (e 1) (e 3) (a 1) (a 3) (i 0))
      (BoxMath.hi (e 0) (e 2) (a 0) (a 2) (i 1)) (BoxMath.hi (e 1) (e 3) (a 1) (a 3) (i 0)) (BoxMath.fg (e 4) (e 5))

def G (E : FVec Ideal S2x6x176x128 .f32) (A : FVec Ideal S4x176x128 .f32) (I : FVec Ideal S1x2 .f32) : FVec Ideal S2x5x176x128 .f32 :=
  fun i => Gat (fun k => E (ix4 (i 0) k (i 2) (i 3))) (fun k => A (ix3 k (i 2) (i 3))) (fun k => I (ix2 0 k)) (i 1).val

/-- The image a grid point works on. -/
def img (t : Fin cfg0.N) : Fin 2 := ⟨t.val, (idx t).2.2.2.2⟩

theorem read0 (c : Dev nD) (t : Fin cfg0.N) (k : Fin 6) (a : Fin 176) (b : Fin 128) :
    (iblk m c 0 t : FVec Ideal S1x6x176x128 .f32) (ix4 0 k a b) = (V m c main_v4 : FVec Ideal S2x6x176x128 .f32) (ix4 (img t) k a b) := by
  blk_point [iblk, idx t, img]

theorem read1 (c : Dev nD) (t : Fin cfg0.N) (k : Fin 4) (a : Fin 176) (b : Fin 128) :
    (iblk m c 1 t : FVec Ideal S4x176x128 .f32) (ix3 k a b) = (V m c main_cst : FVec Ideal S4x176x128 .f32) (ix3 k a b) := by
  blk_point [iblk, idx t]

theorem read2 (c : Dev nD) (t : Fin cfg0.N) (k : Fin 2) :
    (iblk m c 2 t : FVec Ideal S1x2 .f32) (ix2 0 k) = (V m c main_v6 : FVec Ideal S1x2 .f32) (ix2 0 k) := by
  blk_point [iblk, idx t]

theorem place (t : Fin cfg0.N) (y : S1x5x176x128.Idx) :
    ((View.whole main_v7).slice (win0_3.rect t)).emb y = ix4 (img t) (y 1) (y 2) (y 3) := by
  blk_point [idx t, img]

set_option maxHeartbeats 4000000 in
/-- What the body computes from the blocks it is given. -/
theorem body (E : FVec Ideal S1x6x176x128 .f32) (A : FVec Ideal S4x176x128 .f32) (I : FVec Ideal S1x2 .f32) (y : S1x5x176x128.Idx) :
    out0_3 (F := Ideal) E A I y = Gat (fun k => E (ix4 0 k (y 2) (y 3))) (fun k => A (ix3 k (y 2) (y 3))) (fun k => I (ix2 0 k)) (y 1).val := by
  unfold_out out0_3
  canon_tiles x h
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26]
    have hx : (x 1 : ℕ) = 0 := by omega
    simp only [hx, Nat.add_zero] at h1
    rw [h1, show y 2 = x 2 from Fin.ext h2, show y 3 = x 3 from Fin.ext h3]
    rfl

/-- What the body leaves in the result's block at a grid point. -/
theorem point (c : Dev nD) (t : Fin cfg0.N) (y : S1x5x176x128.Idx) :
    out0_3 (iblk m c 0 t) (iblk m c 1 t) (iblk m c 2 t) y
      = G (V m c main_v4) (V m c main_cst) (V m c main_v6) (((View.whole main_v7).slice (win0_3.rect t)).emb y) := by
  rw [place]
  refine (body _ _ _ y).trans ?_
  show Gat _ _ _ _ = Gat _ _ _ _
  rw [funext fun k => read0 m c t k (y 2) (y 3), funext fun k => read1 m c t k (y 2) (y 3), funext fun k => read2 m c t k]
  rfl

/-- The result array after the run. -/
theorem final (c : Dev nD) : (dats m 0 c).arrAt 3 (cfgs 0).N = G (V m c main_v4) (V m c main_cst) (V m c main_v6) := by
  refine (dats m 0 c).arrAt_eq_of_covers 3 _ (by decide +kernel) fun t _ y => ?_
  blk_simp
  rw [after0_3]
  exact point m c t y

end Cert.BoxesIdeal.Box

end
-- ==== Proof.BoxesRead.lean ====
/-
  The arrays the boxes' pallas_call is given, read index by index from the arguments, and its result through the host
  operations after the call.
-/
module

public import proofs.«01_k».proof.Proof.BoxesValue
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

namespace Cert.BoxesIdeal.Box

open Idealize.ShloMosaic Idealize.ShloMosaic.TcCoe Idealize.SL.Sem
open Idealize.ShloMosaic.Pipeline (Dat)
open Cert.BoxesIdeal Cert.BoxesIdeal.Gen

variable (m : (ℓ : Loc nD τ sig) → Buf (Elt Ideal) ℓ)

/-- The offsets and the scores, a box to a lane. -/
theorem readE (c : Dev nD) (n : Fin 2) (k : Fin 6) (a : Fin 176) (b : Fin 128) (hq : a.val * 128 + b.val < 22500) :
    (show EReal from (V m c main_v4 : FVec Ideal S2x6x176x128 .f32) (ix4 n k a b))
      = if h : k.val < 4 then (m ((c : Thread nD τ).loc main_arg0) : FVec Ideal S2x22500x4 .f32) (ix3 n ⟨a.val * 128 + b.val, hq⟩ ⟨k.val, h⟩)
        else (m ((c : Thread nD τ).loc main_arg1) : FVec Ideal S2x22500x2 .f32) (ix3 n ⟨a.val * 128 + b.val, hq⟩ ⟨k.val - 4, by omega⟩) := by
  show StableHlo.after _ _ _ _ = _
  simp only [hostOps0, hostOps0_1, hostOps0_2, List.flatten_cons, List.flatten_nil, List.cons_append, List.nil_append, List.append_nil, StableHlo.TRef.binary, StableHlo.TRef.unary, StableHlo.TRef.toBuf, StableHlo.TRef.ofBuf, cast_eq]
  after_reads_simp
  pointwise
  after_reads_simp
  pointwise
  rw [dif_pos hq]

/-- The image's sides. -/
theorem readI (c : Dev nD) (k : Fin 2) : (show EReal from (V m c main_v6 : FVec Ideal S1x2 .f32) (ix2 0 k))
    = FloatOps.sitofp (F := Ideal) FTy.f32 ((m ((c : Thread nD τ).loc main_arg2) : IVec S2 32) (ix1 k)) := by
  show StableHlo.after _ _ _ _ = _
  simp only [hostOps0, hostOps0_1, hostOps0_2, List.flatten_cons, List.flatten_nil, List.cons_append, List.nil_append, List.append_nil, StableHlo.TRef.binary, StableHlo.TRef.unary, StableHlo.TRef.toBuf, StableHlo.TRef.ofBuf, cast_eq]
  after_reads_simp
  pointwise

theorem word0 : ∀ x : Fin 90112, lit0 x = lit0t x.val := fun ⟨_, _⟩ => rfl

/-- The constant table. -/
theorem readA (c : Dev nD) (k : Fin 4) (a : Fin 176) (b : Fin 128) :
    (show EReal from (V m c main_cst : FVec Ideal S4x176x128 .f32) (ix3 k a b))
      = Ideal.ofBits FTy.f32 (lit0t (k.val * 22528 + (a.val * 128 + b.val))) := by
  show StableHlo.after _ _ _ _ = _
  simp only [hostOps0, hostOps0_1, hostOps0_2, List.flatten_cons, List.flatten_nil, List.cons_append, List.nil_append, List.append_nil, StableHlo.TRef.binary, StableHlo.TRef.unary, StableHlo.TRef.toBuf, StableHlo.TRef.ofBuf, cast_eq]
  after_reads_simp
  pointwise
  refine congrArg (Ideal.ofBits FTy.f32) ((word0 _).trans (congrArg lit0t ((Shape.rowMajor_val_three _).trans ?_)))
  show (k.val * 176 + a.val) * 128 + b.val = _
  omega

/-- The operations before the call leave the anchors as the program holds them. -/
theorem readN (c : Dev nD) : V0 m c (Proc.devRef .tc main_cst_0) = (fun i => FloatOps.ofBits (F := Ideal) .f32 (lit1 (S22500x4.rowMajor i)) : FVec Ideal S22500x4 .f32) := by
  show StableHlo.after _ _ _ = _
  simp only [hostOps0, hostOps0_1, hostOps0_2, List.flatten_cons, List.flatten_nil, List.cons_append, List.nil_append, List.append_nil, StableHlo.TRef.binary, StableHlo.TRef.unary, StableHlo.TRef.toBuf, StableHlo.TRef.ofBuf, cast_eq]
  after_reads_simp
  rfl

/-- The call's result, after the region. -/
theorem exit7 (c : Dev nD) :
    Pipeline.withArrays spec0 c (V0 m c) (fun w => (dats m 0 c).arrAt w (cfgs 0).N) (Proc.tc.devRef main_v7)
      = G (V m c main_v4) (V m c main_cst) (V m c main_v6) :=
  (Pipeline.withArrays_arr spec0 winFacts0.arr_inj c _ _ 3).trans (final m c)

theorem after11 (U : Valuation τ sig (Elt Ideal)) (n : Fin 2) (q : Fin 22500) (k : Fin 4) :
    (show EReal from (StableHlo.after hostOps1 U (Proc.devRef .tc main_v11) : FVec Ideal S2x22500x4 .f32) (ix3 n q k))
      = (U (Proc.devRef .tc main_v7) : FVec Ideal S2x5x176x128 .f32) (ix4 n ⟨k.val, by omega⟩ ⟨q.val / 128, by omega⟩ ⟨q.val % 128, by omega⟩) := by
  after_reads_simp
  pointwise

theorem after13 (U : Valuation τ sig (Elt Ideal)) (n : Fin 2) (q : Fin 22500) :
    (show EReal from (StableHlo.after hostOps1 U (Proc.devRef .tc main_v13) : FVec Ideal S2x22500 .f32) (ix2 n q))
      = (U (Proc.devRef .tc main_v7) : FVec Ideal S2x5x176x128 .f32) (ix4 n 4 ⟨q.val / 128, by omega⟩ ⟨q.val % 128, by omega⟩) := by
  after_reads_simp
  pointwise

/-- The operations after the call leave the anchors alone. -/
theorem afterN (U : Valuation τ sig (Elt Ideal)) :
    StableHlo.after hostOps1 U (Proc.devRef .tc main_cst_0) = U (Proc.devRef .tc main_cst_0) := by
  after_reads_simp

end Cert.BoxesIdeal.Box

end
-- ==== Proof.BoxRef.lean ====
/-
  The box reference's results, read index by index.
-/
module

public import proofs.«01_k».proof.Proof.Gen.BoxesRefIdeal.Run
public import proofs.«01_k».proof.Proof.BoxMath
public import Idealize.ShloMosaic.Lib.Pipeline.ValueKit
public import Idealize.ShloMosaic.Lib.Pointwise

@[expose] public section

set_option maxRecDepth 16384

noncomputable section

namespace Cert.BoxesRefIdeal.Box

open Idealize.ShloMosaic Idealize.ShloMosaic.TcCoe Idealize.SL.Sem
open Cert.BoxesRefIdeal Cert.BoxesRefIdeal.Gen Cert.BoxesRefIdeal.Value

variable (m : (ℓ : Loc nD τ sig) → Buf (Elt Ideal) ℓ)

/-- A constant by column and anchor shape, and one by row and anchor shape, at anchor `q`. -/
def byCol (l : Fin 450 → BitVec 32) (q : Fin 22500) : EReal := Ideal.ofBits FTy.f32 (l ⟨q.val / 9 % 50 * 9 + q.val % 9, by omega⟩)
def byRow (l : Fin 450 → BitVec 32) (q : Fin 22500) : EReal := Ideal.ofBits FTy.f32 (l ⟨q.val / 450 * 9 + q.val % 9, by omega⟩)

theorem col_eq (l : Fin 450 → BitVec 32) (q : Fin 22500) (h1 h2) :
    Ideal.ofBits FTy.f32 (l (S1x50x9.rowMajor (ix3 0 ⟨q.val / 9 % 50, h1⟩ ⟨q.val % 9, h2⟩))) = byCol l q := by
  unfold byCol
  congr 2
  apply Fin.ext
  simp [Shape.rowMajor_val_three]

theorem row_eq (l : Fin 450 → BitVec 32) (q : Fin 22500) (h1 h2) :
    Ideal.ofBits FTy.f32 (l (S50x1x9.rowMajor (ix3 ⟨q.val / 450, h1⟩ 0 ⟨q.val % 9, h2⟩))) = byRow l q := by
  unfold byRow
  congr 2
  apply Fin.ext
  simp [Shape.rowMajor_val_three]

theorem low : Ideal.ofBits FTy.f32 4286578688#32 = ⊥ := by
  simp [Ideal.ofBits, Ideal.ieee]

/-- The greater of a pair of scores, as the reference's reduction finds it. -/
theorem max_pair (f : S2x22500x2.Idx → EReal) (n : Fin 2) (q : Fin 22500)
    [DecidablePred fun i : S2x22500x2.Idx => reducesTo_S2x22500x2_S2x22500_d2.drop i = ix2 n q] :
    Finset.fold max (Ideal.ofBits FTy.f32 4286578688#32) f
      {i | reducesTo_S2x22500x2_S2x22500_d2.drop i = ix2 n q} = max (f (ix3 n q 0)) (f (ix3 n q 1)) := by
  have hd : ∀ i : S2x22500x2.Idx, reducesTo_S2x22500x2_S2x22500_d2.drop i = ix2 (i 0) (i 1) := by
    intro i
    have e0 : (reducesTo_S2x22500x2_S2x22500_d2.drop i 0 : ℕ) = i 0 := Shape.ReducesTo.drop_apply_val _ i 0
    have e1 : (reducesTo_S2x22500x2_S2x22500_d2.drop i 1 : ℕ) = i 1 := Shape.ReducesTo.drop_apply_val _ i 1
    exact (eq_ix2 _).trans ((ix2_inj ..).2 ⟨Fin.ext e0, Fin.ext e1⟩)
  rw [low]
  refine le_antisymm ?_ ?_
  · refine (Finset.fold_max_le _).2 ⟨bot_le, fun i hi => ?_⟩
    have hi' := (Finset.mem_filter.mp hi).2
    rw [hd i] at hi'
    obtain ⟨h0, h1⟩ := (ix2_inj ..).1 hi'
    rw [eq_ix3 i, h0, h1]
    obtain h | h : i 2 = (0 : Fin 2) ∨ i 2 = (1 : Fin 2) := by
      have : (i 2).val < 2 := (i 2).isLt
      rcases (show (i 2).val = 0 ∨ (i 2).val = 1 by omega) with h | h
      · left; exact Fin.ext h
      · right; exact Fin.ext h
    · rw [h]; exact le_max_left _ _
    · rw [h]; exact le_max_right _ _
  · refine max_le ?_ ?_
    · exact (Finset.le_fold_max _).2 (.inr ⟨_, Finset.mem_filter.mpr ⟨Finset.mem_univ _, hd _⟩, le_rfl⟩)
    · exact (Finset.le_fold_max _).2 (.inr ⟨_, Finset.mem_filter.mpr ⟨Finset.mem_univ _, hd _⟩, le_rfl⟩)

/-- An image side, as both programs convert it. -/
def img (I : IVec S2 32) (k : Fin 2) : EReal := FloatOps.sitofp (F := Ideal) FTy.f32 (I (ix1 k))

/-- The four sides and the score of box `q` of image `n`. -/
def left (L : FVec Ideal S2x22500x4 .f32) (I : IVec S2 32) (n : Fin 2) (q : Fin 22500) : EReal :=
  BoxMath.lo (L (ix3 n q 0)) (L (ix3 n q 2)) (byCol lit0 q) (byCol lit2 q) (img I 1)
def top (L : FVec Ideal S2x22500x4 .f32) (I : IVec S2 32) (n : Fin 2) (q : Fin 22500) : EReal :=
  BoxMath.lo (L (ix3 n q 1)) (L (ix3 n q 3)) (byRow lit1 q) (byRow lit3 q) (img I 0)
def right (L : FVec Ideal S2x22500x4 .f32) (I : IVec S2 32) (n : Fin 2) (q : Fin 22500) : EReal :=
  BoxMath.hi (L (ix3 n q 0)) (L (ix3 n q 2)) (byCol lit0 q) (byCol lit2 q) (img I 1)
def bottom (L : FVec Ideal S2x22500x4 .f32) (I : IVec S2 32) (n : Fin 2) (q : Fin 22500) : EReal :=
  BoxMath.hi (L (ix3 n q 1)) (L (ix3 n q 3)) (byRow lit1 q) (byRow lit3 q) (img I 0)

set_option maxRecDepth 8000 in
theorem roi_at (c : Dev nD) (n : Fin 2) (q : Fin 22500) (k : Fin 4) :
    (show EReal from res_out0 m c (ix3 n q k))
      = if k.val = 0 then left (m (c.tc.loc main_arg0)) (m (c.tc.loc main_arg2)) n q
        else if k.val = 1 then top (m (c.tc.loc main_arg0)) (m (c.tc.loc main_arg2)) n q
        else if k.val = 2 then right (m (c.tc.loc main_arg0)) (m (c.tc.loc main_arg2)) n q
        else bottom (m (c.tc.loc main_arg0)) (m (c.tc.loc main_arg2)) n q := by
  have hz : (id (constant (F := Ideal) S_ FTy.f32 0#32) ix0 : EReal) = 0 := by
    show Ideal.ofBits FTy.f32 0#32 = 0
    pointwise
  show res_main_v78 m c _ = _
  pointwise [res_main_v78]
  simp only [col_eq, row_eq]
  fin_vals k with hk <;> simp only [hk, Nat.reduceSub, Nat.reduceLT, Nat.reduceEqDiff, Nat.reduceSub, reduceIte, reduceDIte, left, top, right, bottom, BoxMath.lo, BoxMath.hi, img]
  all_goals (rw [hz])

set_option maxRecDepth 8000 in
theorem score_at (c : Dev nD) (n : Fin 2) (q : Fin 22500) :
    (show EReal from res_out1 m c (ix2 n q))
      = BoxMath.score (left (m (c.tc.loc main_arg0)) (m (c.tc.loc main_arg2)) n q) (top (m (c.tc.loc main_arg0)) (m (c.tc.loc main_arg2)) n q)
          (right (m (c.tc.loc main_arg0)) (m (c.tc.loc main_arg2)) n q) (bottom (m (c.tc.loc main_arg0)) (m (c.tc.loc main_arg2)) n q)
          (BoxMath.fg ((m (c.tc.loc main_arg1) : FVec Ideal S2x22500x2 .f32) (ix3 n q 0)) ((m (c.tc.loc main_arg1) : FVec Ideal S2x22500x2 .f32) (ix3 n q 1))) := by
  have hz : (id (constant (F := Ideal) S_ FTy.f32 0#32) ix0 : EReal) = 0 := by
    show Ideal.ofBits FTy.f32 0#32 = 0
    pointwise
  show res_main_v86 m c _ = _
  pointwise [res_main_v86]
  simp only [col_eq, row_eq, Fin.sum_univ_two]
  rw [hz]
  have hm := max_pair (m (c.tc.loc main_arg1)) n q
  erw [hm]
  have hl : ∀ x : EReal, max (Ideal.ofBits FTy.f32 4286578688#32) x = x := fun x => by rw [low]; exact max_eq_right bot_le
  have hn : (id (constant (F := Ideal) S_ FTy.f32 4286578688#32) ix0 : EReal) = Ideal.ofBits FTy.f32 4286578688#32 := rfl
  simp only [hl, hn, left, top, right, bottom, img]
  generalize byCol lit0 q = a
  generalize byCol lit2 q = b
  generalize byRow lit1 q = a'
  generalize byRow lit3 q = b'
  rfl

end Cert.BoxesRefIdeal.Box

end
-- ==== Proof.BoxWidth.lean ====
/-
  The kernel's table of the anchors' widths holds the words of the reference's table by column: every row has the first row's words, and those
  are the reference's.
-/
module

public import proofs.«01_k».proof.BoxesIdeal
public import proofs.«01_k».proof.BoxesRefIdeal
public import Idealize.ShloMosaic.Lib.Pointwise

@[expose] public section

set_option maxRecDepth 100000

namespace Cert.BoxTables

theorem widths_same : ∀ (s : Fin 50) (k : Fin 9) (r : Fin 50), Cert.BoxesIdeal.lit0t (0 * 22528 + (r.val * 450 + s.val * 9 + k.val)) = Cert.BoxesIdeal.lit0t (0 * 22528 + (s.val * 9 + k.val)) := by
  decide +kernel

theorem widths_first : ∀ (s : Fin 50) (k : Fin 9), Cert.BoxesIdeal.lit0t (0 * 22528 + (s.val * 9 + k.val)) = Cert.BoxesRefIdeal.lit0 ⟨s.val * 9 + k.val, by omega⟩ := by
  decide +kernel

theorem widths (r s : Fin 50) (k : Fin 9) : Cert.BoxesIdeal.lit0t (0 * 22528 + (r.val * 450 + s.val * 9 + k.val)) = Cert.BoxesRefIdeal.lit0 ⟨s.val * 9 + k.val, by omega⟩ :=
  (widths_same s k r).trans (widths_first s k)

end Cert.BoxTables

end
-- ==== Proof.BoxHeight.lean ====
/-
  The kernel's table of the anchors' heights holds the words of the reference's table by row: every column has the first column's words, and those
  are the reference's.
-/
module

public import proofs.«01_k».proof.BoxesIdeal
public import proofs.«01_k».proof.BoxesRefIdeal
public import Idealize.ShloMosaic.Lib.Pointwise
public import proofs.«01_k».proof.Proof.BoxWidth

@[expose] public section

set_option maxRecDepth 100000

namespace Cert.BoxTables

theorem heights_same : ∀ (r : Fin 50) (k : Fin 9) (s : Fin 50), Cert.BoxesIdeal.lit0t (1 * 22528 + (r.val * 450 + s.val * 9 + k.val)) = Cert.BoxesIdeal.lit0t (1 * 22528 + (r.val * 450 + k.val)) := by
  decide +kernel

theorem heights_first : ∀ (r : Fin 50) (k : Fin 9), Cert.BoxesIdeal.lit0t (1 * 22528 + (r.val * 450 + k.val)) = Cert.BoxesRefIdeal.lit1 ⟨r.val * 9 + k.val, by omega⟩ := by
  decide +kernel

theorem heights (r s : Fin 50) (k : Fin 9) : Cert.BoxesIdeal.lit0t (1 * 22528 + (r.val * 450 + s.val * 9 + k.val)) = Cert.BoxesRefIdeal.lit1 ⟨r.val * 9 + k.val, by omega⟩ :=
  (heights_same r k s).trans (heights_first r k)

end Cert.BoxTables

end
-- ==== Proof.BoxAcross.lean ====
/-
  The kernel's table of the anchors' horizontal centres holds the words of the reference's table by column: every row has the first row's words, and those
  are the reference's.
-/
module

public import proofs.«01_k».proof.BoxesIdeal
public import proofs.«01_k».proof.BoxesRefIdeal
public import Idealize.ShloMosaic.Lib.Pointwise
public import proofs.«01_k».proof.Proof.BoxHeight

@[expose] public section

set_option maxRecDepth 100000

namespace Cert.BoxTables

theorem across_same : ∀ (s : Fin 50) (k : Fin 9) (r : Fin 50), Cert.BoxesIdeal.lit0t (2 * 22528 + (r.val * 450 + s.val * 9 + k.val)) = Cert.BoxesIdeal.lit0t (2 * 22528 + (s.val * 9 + k.val)) := by
  decide +kernel

theorem across_first : ∀ (s : Fin 50) (k : Fin 9), Cert.BoxesIdeal.lit0t (2 * 22528 + (s.val * 9 + k.val)) = Cert.BoxesRefIdeal.lit2 ⟨s.val * 9 + k.val, by omega⟩ := by
  decide +kernel

theorem across (r s : Fin 50) (k : Fin 9) : Cert.BoxesIdeal.lit0t (2 * 22528 + (r.val * 450 + s.val * 9 + k.val)) = Cert.BoxesRefIdeal.lit2 ⟨s.val * 9 + k.val, by omega⟩ :=
  (across_same s k r).trans (across_first s k)

end Cert.BoxTables

end
-- ==== Proof.BoxDown.lean ====
/-
  The kernel's table of the anchors' vertical centres holds the words of the reference's table by row: every column has the first column's words, and those
  are the reference's.
-/
module

public import proofs.«01_k».proof.BoxesIdeal
public import proofs.«01_k».proof.BoxesRefIdeal
public import Idealize.ShloMosaic.Lib.Pointwise
public import proofs.«01_k».proof.Proof.BoxAcross

@[expose] public section

set_option maxRecDepth 100000

namespace Cert.BoxTables

theorem down_same : ∀ (r : Fin 50) (k : Fin 9) (s : Fin 50), Cert.BoxesIdeal.lit0t (3 * 22528 + (r.val * 450 + s.val * 9 + k.val)) = Cert.BoxesIdeal.lit0t (3 * 22528 + (r.val * 450 + k.val)) := by
  decide +kernel

theorem down_first : ∀ (r : Fin 50) (k : Fin 9), Cert.BoxesIdeal.lit0t (3 * 22528 + (r.val * 450 + k.val)) = Cert.BoxesRefIdeal.lit3 ⟨r.val * 9 + k.val, by omega⟩ := by
  decide +kernel

theorem down (r s : Fin 50) (k : Fin 9) : Cert.BoxesIdeal.lit0t (3 * 22528 + (r.val * 450 + s.val * 9 + k.val)) = Cert.BoxesRefIdeal.lit3 ⟨r.val * 9 + k.val, by omega⟩ :=
  (down_same r k s).trans (down_first r k)

end Cert.BoxTables

end
-- ==== Proof.BoxesTail.lean ====
/-
  The results of the boxes' kernel, index by index, in the words of the reference's tables.
-/
module

public import proofs.«01_k».proof.Proof.BoxesRead
public import proofs.«01_k».proof.Proof.BoxRef
public import proofs.«01_k».proof.Proof.BoxDown

@[expose] public section

set_option maxRecDepth 16384

noncomputable section

namespace Cert.BoxesIdeal.Box

open Idealize.ShloMosaic Idealize.ShloMosaic.TcCoe Idealize.SL.Sem
open Idealize.ShloMosaic.Pipeline (Dat)
open Cert.BoxesIdeal Cert.BoxesIdeal.Gen
open Cert.BoxesRefIdeal.Box (byCol byRow left top right bottom)

variable (m : (ℓ : Loc nD τ sig) → Buf (Elt Ideal) ℓ)

/-- The two programs hold the same anchors. -/
theorem same : lit1 = Cert.BoxesRefIdeal.lit4 := rfl

/-- Box `q`'s width, height and centre. -/
def tab (q : Fin 22500) (k : Fin 4) : EReal := Ideal.ofBits FTy.f32 (lit0t (k.val * 22528 + q.val))

/-- A table that holds, box by box, the words of a table by column reads as that table. -/
theorem col_of (T : ℕ → BitVec 32) (l : Fin 450 → BitVec 32) (j : ℕ)
    (h : ∀ (r s : Fin 50) (k : Fin 9), T (j * 22528 + (r.val * 450 + s.val * 9 + k.val)) = l ⟨s.val * 9 + k.val, by omega⟩)
    (q : Fin 22500) (i : ℕ) (hi : i = j * 22528 + q.val) : Ideal.ofBits FTy.f32 (T i) = byCol l q := by
  have hq : q.val / 450 * 450 + q.val / 9 % 50 * 9 + q.val % 9 = q.val := by omega
  have e := h ⟨q.val / 450, by omega⟩ ⟨q.val / 9 % 50, by omega⟩ ⟨q.val % 9, by omega⟩
  rw [hq] at e
  rw [hi, e]
  rfl

/-- The same, for a table by row. -/
theorem row_of (T : ℕ → BitVec 32) (l : Fin 450 → BitVec 32) (j : ℕ)
    (h : ∀ (r s : Fin 50) (k : Fin 9), T (j * 22528 + (r.val * 450 + s.val * 9 + k.val)) = l ⟨r.val * 9 + k.val, by omega⟩)
    (q : Fin 22500) (i : ℕ) (hi : i = j * 22528 + q.val) : Ideal.ofBits FTy.f32 (T i) = byRow l q := by
  have hq : q.val / 450 * 450 + q.val / 9 % 50 * 9 + q.val % 9 = q.val := by omega
  have e := h ⟨q.val / 450, by omega⟩ ⟨q.val / 9 % 50, by omega⟩ ⟨q.val % 9, by omega⟩
  rw [hq] at e
  rw [hi, e]
  rfl

theorem tab0 (q : Fin 22500) : tab q 0 = byCol Cert.BoxesRefIdeal.lit0 q := by
  unfold tab
  exact col_of lit0t Cert.BoxesRefIdeal.lit0 0 Cert.BoxTables.widths q _ rfl
theorem tab1 (q : Fin 22500) : tab q 1 = byRow Cert.BoxesRefIdeal.lit1 q := by
  unfold tab
  exact row_of lit0t Cert.BoxesRefIdeal.lit1 1 Cert.BoxTables.heights q _ rfl
theorem tab2 (q : Fin 22500) : tab q 2 = byCol Cert.BoxesRefIdeal.lit2 q := by
  unfold tab
  exact col_of lit0t Cert.BoxesRefIdeal.lit2 2 Cert.BoxTables.across q _ rfl
theorem tab3 (q : Fin 22500) : tab q 3 = byRow Cert.BoxesRefIdeal.lit3 q := by
  unfold tab
  exact row_of lit0t Cert.BoxesRefIdeal.lit3 3 Cert.BoxTables.down q _ rfl

/-- The offsets and scores of box `q`. -/
theorem offsets (c : Dev nD) (n : Fin 2) (q : Fin 22500) (k : Fin 6) :
    (V m c main_v4 : FVec Ideal S2x6x176x128 .f32) (ix4 n k ⟨q.val / 128, by omega⟩ ⟨q.val % 128, by omega⟩)
      = (if h : k.val < 4 then (m ((c : Thread nD τ).loc main_arg0) : FVec Ideal S2x22500x4 .f32) (ix3 n q ⟨k.val, h⟩)
        else (m ((c : Thread nD τ).loc main_arg1) : FVec Ideal S2x22500x2 .f32) (ix3 n q ⟨k.val - 4, by omega⟩) : EReal) := by
  have hq : q.val / 128 * 128 + q.val % 128 = q.val := by omega
  refine (readE m c n k ⟨q.val / 128, by omega⟩ ⟨q.val % 128, by omega⟩ (by show q.val / 128 * 128 + q.val % 128 < 22500; omega)).trans ?_
  simp only [hq]

/-- The constants of box `q`. -/
theorem constants (c : Dev nD) (q : Fin 22500) (k : Fin 4) :
    (V m c main_cst : FVec Ideal S4x176x128 .f32) (ix3 k ⟨q.val / 128, by omega⟩ ⟨q.val % 128, by omega⟩) = tab q k := by
  have hq : q.val / 128 * 128 + q.val % 128 = q.val := by omega
  refine (readA m c k ⟨q.val / 128, by omega⟩ ⟨q.val % 128, by omega⟩).trans ?_
  unfold tab
  simp only [hq]

/-- The call's result for box `q`. -/
theorem result (c : Dev nD) (n : Fin 2) (q : Fin 22500) (k : Fin 5) :
    G (V m c main_v4) (V m c main_cst) (V m c main_v6) (ix4 n k ⟨q.val / 128, by omega⟩ ⟨q.val % 128, by omega⟩)
      = Gat (fun k => if h : k.val < 4 then (m ((c : Thread nD τ).loc main_arg0) : FVec Ideal S2x22500x4 .f32) (ix3 n q ⟨k.val, h⟩)
        else (m ((c : Thread nD τ).loc main_arg1) : FVec Ideal S2x22500x2 .f32) (ix3 n q ⟨k.val - 4, by omega⟩))
        (fun k => tab q k)
        (fun k => FloatOps.sitofp (F := Ideal) FTy.f32 ((m ((c : Thread nD τ).loc main_arg2) : IVec S2 32) (ix1 k))) k.val := by
  show Gat _ _ _ _ = _
  rw [← funext fun k => offsets m c n q k, ← funext fun k => constants m c q k, ← funext fun k => readI m c k]
  rfl

theorem tail0 (c : Dev nD) (n : Fin 2) (q : Fin 22500) (k : Fin 4) :
    (show EReal from (Pipeline.afterTail₀ cfgs (dats m) 0 (V0 m) [hostOps1] c main_v11 : FVec Ideal S2x22500x4 .f32) (ix3 n q k))
      = if k.val = 0 then left (m ((c : Thread nD τ).loc main_arg0)) (m ((c : Thread nD τ).loc main_arg2)) n q
        else if k.val = 1 then top (m ((c : Thread nD τ).loc main_arg0)) (m ((c : Thread nD τ).loc main_arg2)) n q
        else if k.val = 2 then right (m ((c : Thread nD τ).loc main_arg0)) (m ((c : Thread nD τ).loc main_arg2)) n q
        else bottom (m ((c : Thread nD τ).loc main_arg0)) (m ((c : Thread nD τ).loc main_arg2)) n q := by
  unfold Pipeline.afterTail₀
  simp only [List.flatten_cons, List.flatten_nil, List.append_nil]
  refine (after11 _ n q k).trans ((congrFun (exit7 m c) _).trans ((result m c n q ⟨k.val, by omega⟩).trans ?_))
  unfold left top right bottom
  rw [← tab0, ← tab1, ← tab2, ← tab3]
  fin_vals k with hk <;> simp only [hk, Nat.reduceEqDiff, reduceIte] <;> rfl

theorem tail1 (c : Dev nD) (n : Fin 2) (q : Fin 22500) :
    (show EReal from (Pipeline.afterTail₀ cfgs (dats m) 0 (V0 m) [hostOps1] c main_v13 : FVec Ideal S2x22500 .f32) (ix2 n q))
      = BoxMath.score (left (m ((c : Thread nD τ).loc main_arg0)) (m ((c : Thread nD τ).loc main_arg2)) n q)
          (top (m ((c : Thread nD τ).loc main_arg0)) (m ((c : Thread nD τ).loc main_arg2)) n q)
          (right (m ((c : Thread nD τ).loc main_arg0)) (m ((c : Thread nD τ).loc main_arg2)) n q)
          (bottom (m ((c : Thread nD τ).loc main_arg0)) (m ((c : Thread nD τ).loc main_arg2)) n q)
          (BoxMath.fg ((m ((c : Thread nD τ).loc main_arg1) : FVec Ideal S2x22500x2 .f32) (ix3 n q 0))
            ((m ((c : Thread nD τ).loc main_arg1) : FVec Ideal S2x22500x2 .f32) (ix3 n q 1))) := by
  unfold Pipeline.afterTail₀
  simp only [List.flatten_cons, List.flatten_nil, List.append_nil]
  refine (after13 _ n q).trans ((congrFun (exit7 m c) _).trans ((result m c n q 4).trans ?_))
  unfold left top right bottom
  rw [← tab0, ← tab1, ← tab2, ← tab3]
  rfl

theorem tail2 (c : Dev nD) : Pipeline.afterTail₀ cfgs (dats m) 0 (V0 m) [hostOps1] c main_cst_0
    = (fun i => FloatOps.ofBits (F := Ideal) .f32 (Cert.BoxesRefIdeal.lit4 (S22500x4.rowMajor i)) : FVec Ideal S22500x4 .f32) := by
  unfold Pipeline.afterTail₀
  simp only [List.flatten_cons, List.flatten_nil, List.append_nil]
  rw [← same]
  exact (afterN _).trans ((Pipeline.withArrays_of_ne spec0 c _ _ main_cst_0 (by decide +kernel)).trans (readN m c))

end Cert.BoxesIdeal.Box

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Boxes
public import proofs.«01_k».proof.Proof.Gen.Boxes.Skeleton
public import proofs.«01_k».proof.Proof.Gen.Boxes.Launch
public import proofs.«01_k».proof.Proof.Gen.Boxes.Points
public import proofs.«01_k».proof.Proof.Gen.Boxes.Frame
public import proofs.«01_k».proof.Proof.Gen.BoxesIdeal
public import proofs.«01_k».proof.Proof.Gen.BoxesIdeal.Skeleton
public import proofs.«01_k».proof.Proof.Gen.BoxesIdeal.Launch
public import proofs.«01_k».proof.Proof.Gen.BoxesIdeal.Points
public import proofs.«01_k».proof.Proof.Gen.BoxesIdeal.Frame
public import proofs.«01_k».proof.Proof.Gen.BoxesRefIdeal
public import proofs.«01_k».proof.Proof.Gen.BoxesRefIdeal.Run
public import proofs.«01_k».proof.Proof.Gen.Nms
public import proofs.«01_k».proof.Proof.Gen.Nms.Skeleton
public import proofs.«01_k».proof.Proof.Gen.Nms.Launch
public import proofs.«01_k».proof.Proof.Gen.Nms.Points
public import proofs.«01_k».proof.Proof.Gen.Nms.Frame
public import proofs.«01_k».proof.Proof.Gen.Nms.Loops
public import proofs.«01_k».proof.Proof.Gen.NmsIdeal
public import proofs.«01_k».proof.Proof.Gen.NmsIdeal.Skeleton
public import proofs.«01_k».proof.Proof.Gen.NmsIdeal.Launch
public import proofs.«01_k».proof.Proof.Gen.NmsIdeal.Points
public import proofs.«01_k».proof.Proof.Gen.NmsIdeal.Frame
public import proofs.«01_k».proof.Proof.Gen.NmsIdeal.Loops
public import proofs.«01_k».proof.Proof.Gen.NmsRefIdeal
public import proofs.«01_k».proof.Proof.Gen.NmsRefIdeal.Run
public import proofs.«01_k».proof.Proof.NmsRun
public import proofs.«01_k».proof.Proof.NmsIdealRun
public import proofs.«01_k».proof.Proof.NmsSame
public import proofs.«01_k».proof.Proof.Gen.ReferenceIdeal
public import proofs.«01_k».proof.Proof.Gen.ReferenceIdeal.Run
public import proofs.«01_k».proof.Proof.Gen.ReferenceIdeal.Read
public import proofs.«01_k».proof.Proof.ConvTail
public import proofs.«01_k».proof.Proof.ConvRef
public import proofs.«01_k».proof.Proof.BoxesTail
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel's results are the reference's: both are read index by index as the same sums. -/
theorem algebraic : Cert.algebraic_KernelIdeal_ReferenceIdeal := by
  pair_intro
  · run_from Cert.KernelIdeal.Gen.unchanged m g & Cert.KernelIdeal.Gen.run_main m g
  · run_from Cert.ReferenceIdeal.Value.run m' g'
    · rw [Cert.ReferenceIdeal.Read.val_main_v57_eq]
      simp only [(hagree c).1, (hagree c).2.1, (hagree c).2.2.1, (hagree c).2.2.2.2.2.1, (hagree c).2.2.2.2.2.2]
      funext i
      rw [eq_ix3 i]
      exact (Cert.ReferenceIdeal.Conv.loc_at _ _ _ _ _ _ _ _).trans (Cert.KernelIdeal.Conv.tail0 m c _ _ _).symm
    · rw [Cert.ReferenceIdeal.Read.val_main_v63_eq]
      simp only [(hagree c).1, (hagree c).2.1, (hagree c).2.2.1, (hagree c).2.2.2.1, (hagree c).2.2.2.2.1]
      funext i
      rw [eq_ix3 i]
      exact (Cert.ReferenceIdeal.Conv.score_at _ _ _ _ _ _ _ _).trans (Cert.KernelIdeal.Conv.tail1 m c _ _ _).symm
    · rw [Cert.ReferenceIdeal.Read.val_main_v70_eq]
      funext i
      rw [eq_ix1 i]
      exact (Cert.ReferenceIdeal.Conv.inds_at _).trans (Cert.KernelIdeal.Conv.tail2 m c _).symm

/-- The boxes' kernel gives the reference's boxes, scores and anchors. -/
theorem algebraic_boxes : Cert.algebraic_BoxesIdeal_BoxesRefIdeal := by
  pair_intro
  · run_from Cert.BoxesIdeal.Gen.unchanged m g & Cert.BoxesIdeal.Gen.run_main m g
  · run_from Cert.BoxesRefIdeal.Value.run m' g'
    · funext i
      rw [eq_ix3 i]
      refine (Cert.BoxesRefIdeal.Box.roi_at m' c _ _ _).trans ?_
      simp only [(hagree c).1, (hagree c).2.2]
      exact (Cert.BoxesIdeal.Box.tail0 m c _ _ _).symm
    · funext i
      rw [eq_ix2 i]
      refine (Cert.BoxesRefIdeal.Box.score_at m' c _ _).trans ?_
      simp only [(hagree c).1, (hagree c).2.1, (hagree c).2.2]
      exact (Cert.BoxesIdeal.Box.tail1 m c _ _).symm

/-- The references' arguments end unchanged; they have no semaphore. -/
theorem frame_ref : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run m ρ)

theorem frame_boxesRef : Cert.quiescent_BoxesRefIdeal := fun m ρ _ =>
  (θ_run Cert.BoxesRefIdeal.defs _ _).mono (fun r h => ⟨fun c => (h c).2.2.2, sem_eq_zero_of_no_sems (by decide) r.2⟩)
    (Cert.BoxesRefIdeal.Value.run m ρ)

theorem frame_nmsRef : Cert.quiescent_NmsRefIdeal := fun m ρ _ =>
  (θ_run Cert.NmsRefIdeal.defs _ _).mono (fun r h => ⟨fun c => (h c).2, sem_eq_zero_of_no_sems (by decide) r.2⟩)
    (Cert.NmsRefIdeal.Loop.ran m ρ)

/-- The suppression's kernel keeps the boxes the reference's loop keeps, in the same order. -/
theorem algebraic_nms : Cert.algebraic_NmsIdeal_NmsRefIdeal := by
  intro m g m' g' _ hagree
  refine ⟨fun c => StableHlo.finalContents Cert.NmsRefIdeal.Value.condOps Cert.NmsRefIdeal.Value.preI Cert.NmsRefIdeal.Value.bodyI
    Cert.NmsRefIdeal.Value.postI 3000 m' c (Proc.devRef .tc Cert.NmsRefIdeal.main_v67), ?_, Cert.NmsRefIdeal.Loop.ran m' g'⟩
  refine (θ_run Cert.NmsIdeal.defs _ _).mono (fun r h c => ?_) (Cert.NmsIdeal.Val.ran m g)
  obtain ⟨⟨A, hA, hv⟩, ha⟩ := h c
  exact ⟨hv.trans (Cert.NmsSame.same m m' c (hagree c).1 (hagree c).2 A hA), ha⟩

theorem claim : Cert.Claim := ⟨Cert.Kernel.Gen.facts, Cert.KernelIdeal.Gen.facts, Cert.ReferenceIdeal.Gen.facts,
  Cert.Boxes.Gen.facts, Cert.BoxesIdeal.Gen.facts, Cert.BoxesRefIdeal.Gen.facts,
  Cert.Nms.Gen.facts, Cert.NmsIdeal.Gen.facts, Cert.NmsRefIdeal.Gen.facts,
  fun m ρ _ => Cert.Kernel.Gen.frame m ρ, fun m ρ _ => Cert.KernelIdeal.Gen.frame m ρ, frame_ref,
  fun m ρ _ => Cert.Boxes.Gen.frame m ρ, fun m ρ _ => Cert.BoxesIdeal.Gen.frame m ρ, frame_boxesRef,
  fun m ρ _ => Cert.Nms.Run.unchanged m ρ, fun m ρ _ => Cert.NmsIdeal.Run.unchanged m ρ, frame_nmsRef,
  trivial, algebraic, trivial, algebraic_boxes, trivial, algebraic_nms⟩

end Cert.Proof

end
